-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![256, 16384]⟩ 1 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S256x8 : Shape := ⟨2, ![256, 8]⟩
abbrev S16x256x8 : Shape := ⟨3, ![16, 256, 8]⟩
abbrev S16 : Shape := ⟨1, ![16]⟩
abbrev S_ : Shape := ⟨0, ![]⟩
abbrev S256 : Shape := ⟨1, ![256]⟩
abbrev S256x1 : Shape := ⟨2, ![256, 1]⟩
abbrev S1x256x8 : Shape := ⟨3, ![1, 256, 8]⟩
abbrev S1 : Shape := ⟨1, ![1]⟩
abbrev S256x128 : Shape := ⟨2, ![256, 128]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S16x256x8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  v5.toNat
def k0_dev2 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.addi v2 c2_i32
  let c16_i32_3 : BitVec 32 := 16#32
  let v7 : BitVec 32 := Scalar.remsi v6 c16_i32_3
  v7.toNat
def k0_dev3 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v8 : BitVec 32 := Scalar.addi v2 c3_i32
  let c16_i32_5 : BitVec 32 := 16#32
  let v9 : BitVec 32 := Scalar.remsi v8 c16_i32_5
  v9.toNat
def k0_dev4 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.addi v2 c4_i32
  let c16_i32_7 : BitVec 32 := 16#32
  let v11 : BitVec 32 := Scalar.remsi v10 c16_i32_7
  v11.toNat
def k0_dev5 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v12 : BitVec 32 := Scalar.addi v2 c5_i32
  let c16_i32_9 : BitVec 32 := 16#32
  let v13 : BitVec 32 := Scalar.remsi v12 c16_i32_9
  v13.toNat
def k0_dev6 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v14 : BitVec 32 := Scalar.addi v2 c6_i32
  let c16_i32_11 : BitVec 32 := 16#32
  let v15 : BitVec 32 := Scalar.remsi v14 c16_i32_11
  v15.toNat
def k0_dev7 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v16 : BitVec 32 := Scalar.addi v2 c7_i32
  let c16_i32_13 : BitVec 32 := 16#32
  let v17 : BitVec 32 := Scalar.remsi v16 c16_i32_13
  v17.toNat
def k0_dev8 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_15 : BitVec 32 := 16#32
  let v19 : BitVec 32 := Scalar.remsi v18 c16_i32_15
  v19.toNat
def k0_dev9 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v20 : BitVec 32 := Scalar.addi v2 c9_i32
  let c16_i32_17 : BitVec 32 := 16#32
  let v21 : BitVec 32 := Scalar.remsi v20 c16_i32_17
  v21.toNat
def k0_dev10 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v22 : BitVec 32 := Scalar.addi v2 c10_i32
  let c16_i32_19 : BitVec 32 := 16#32
  let v23 : BitVec 32 := Scalar.remsi v22 c16_i32_19
  v23.toNat
def k0_dev11 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v24 : BitVec 32 := Scalar.addi v2 c11_i32
  let c16_i32_21 : BitVec 32 := 16#32
  let v25 : BitVec 32 := Scalar.remsi v24 c16_i32_21
  v25.toNat
def k0_dev12 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v26 : BitVec 32 := Scalar.addi v2 c12_i32
  let c16_i32_23 : BitVec 32 := 16#32
  let v27 : BitVec 32 := Scalar.remsi v26 c16_i32_23
  v27.toNat
def k0_dev13 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v28 : BitVec 32 := Scalar.addi v2 c13_i32
  let c16_i32_25 : BitVec 32 := 16#32
  let v29 : BitVec 32 := Scalar.remsi v28 c16_i32_25
  v29.toNat
def k0_dev14 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v30 : BitVec 32 := Scalar.addi v2 c14_i32
  let c16_i32_27 : BitVec 32 := 16#32
  let v31 : BitVec 32 := Scalar.remsi v30 c16_i32_27
  v31.toNat
def k0_dev15 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v32 : BitVec 32 := Scalar.addi v2 c15_i32
  let c16_i32_29 : BitVec 32 := 16#32
  let v33 : BitVec 32 := Scalar.remsi v32 c16_i32_29
  v33.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v124 : Index := Scalar.indexCast v2
  let c0_60 : Index := 0#32
  let c0_61 : Index := 0#32
  ![v124.toNat, 0, 0]
def k0_off2 (d0 : Dev nD) (c1_i32_62 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v128 : BitVec 32 := Scalar.addi v2 c1_i32_62
  let c16_i32_63 : BitVec 32 := 16#32
  let v129 : BitVec 32 := Scalar.remsi v128 c16_i32_63
  ![v129.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let c0_i32_64 : BitVec 32 := 0#32
  ![v2.toNat, 0, 0]
def k0_dev16 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_62 : BitVec 32 := 1#32
  let v128 : BitVec 32 := Scalar.addi v2 c1_i32_62
  let c16_i32_63 : BitVec 32 := 16#32
  let v129 : BitVec 32 := Scalar.remsi v128 c16_i32_63
  v129.toNat
def k0_dev17 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_67 : BitVec 32 := 2#32
  let v138 : BitVec 32 := Scalar.addi v2 c2_i32_67
  let c16_i32_68 : BitVec 32 := 16#32
  let v139 : BitVec 32 := Scalar.remsi v138 c16_i32_68
  v139.toNat
def k0_dev18 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_73 : BitVec 32 := 3#32
  let v148 : BitVec 32 := Scalar.addi v2 c3_i32_73
  let c16_i32_74 : BitVec 32 := 16#32
  let v149 : BitVec 32 := Scalar.remsi v148 c16_i32_74
  v149.toNat
def k0_dev19 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_79 : BitVec 32 := 4#32
  let v158 : BitVec 32 := Scalar.addi v2 c4_i32_79
  let c16_i32_80 : BitVec 32 := 16#32
  let v159 : BitVec 32 := Scalar.remsi v158 c16_i32_80
  v159.toNat
def k0_dev20 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_85 : BitVec 32 := 5#32
  let v168 : BitVec 32 := Scalar.addi v2 c5_i32_85
  let c16_i32_86 : BitVec 32 := 16#32
  let v169 : BitVec 32 := Scalar.remsi v168 c16_i32_86
  v169.toNat
def k0_dev21 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_91 : BitVec 32 := 6#32
  let v178 : BitVec 32 := Scalar.addi v2 c6_i32_91
  let c16_i32_92 : BitVec 32 := 16#32
  let v179 : BitVec 32 := Scalar.remsi v178 c16_i32_92
  v179.toNat
def k0_dev22 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_97 : BitVec 32 := 7#32
  let v188 : BitVec 32 := Scalar.addi v2 c7_i32_97
  let c16_i32_98 : BitVec 32 := 16#32
  let v189 : BitVec 32 := Scalar.remsi v188 c16_i32_98
  v189.toNat
def k0_dev23 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_103 : BitVec 32 := 8#32
  let v198 : BitVec 32 := Scalar.addi v2 c8_i32_103
  let c16_i32_104 : BitVec 32 := 16#32
  let v199 : BitVec 32 := Scalar.remsi v198 c16_i32_104
  v199.toNat
def k0_dev24 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_109 : BitVec 32 := 9#32
  let v208 : BitVec 32 := Scalar.addi v2 c9_i32_109
  let c16_i32_110 : BitVec 32 := 16#32
  let v209 : BitVec 32 := Scalar.remsi v208 c16_i32_110
  v209.toNat
def k0_dev25 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_115 : BitVec 32 := 10#32
  let v218 : BitVec 32 := Scalar.addi v2 c10_i32_115
  let c16_i32_116 : BitVec 32 := 16#32
  let v219 : BitVec 32 := Scalar.remsi v218 c16_i32_116
  v219.toNat
def k0_dev26 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_121 : BitVec 32 := 11#32
  let v228 : BitVec 32 := Scalar.addi v2 c11_i32_121
  let c16_i32_122 : BitVec 32 := 16#32
  let v229 : BitVec 32 := Scalar.remsi v228 c16_i32_122
  v229.toNat
def k0_dev27 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_127 : BitVec 32 := 12#32
  let v238 : BitVec 32 := Scalar.addi v2 c12_i32_127
  let c16_i32_128 : BitVec 32 := 16#32
  let v239 : BitVec 32 := Scalar.remsi v238 c16_i32_128
  v239.toNat
def k0_dev28 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_133 : BitVec 32 := 13#32
  let v248 : BitVec 32 := Scalar.addi v2 c13_i32_133
  let c16_i32_134 : BitVec 32 := 16#32
  let v249 : BitVec 32 := Scalar.remsi v248 c16_i32_134
  v249.toNat
def k0_dev29 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_139 : BitVec 32 := 14#32
  let v258 : BitVec 32 := Scalar.addi v2 c14_i32_139
  let c16_i32_140 : BitVec 32 := 16#32
  let v259 : BitVec 32 := Scalar.remsi v258 c16_i32_140
  v259.toNat
def k0_dev30 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_145 : BitVec 32 := 15#32
  let v268 : BitVec 32 := Scalar.addi v2 c15_i32_145
  let c16_i32_146 : BitVec 32 := 16#32
  let v269 : BitVec 32 := Scalar.remsi v268 c16_i32_146
  v269.toNat
def k0_off5 (d0 : Dev nD) (c1_i32_151 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v278 : BitVec 32 := Scalar.addi v2 c1_i32_151
  let c16_i32_152 : BitVec 32 := 16#32
  let v279 : BitVec 32 := Scalar.remsi v278 c16_i32_152
  let c0_i32_153 : BitVec 32 := 0#32
  let c0_i32_154 : BitVec 32 := 0#32
  ![v279.toNat, 0, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x16384 : Shape := ⟨2, ![256, 16384]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x16384, .f32⟩
  | .hbm, ⟨1, _⟩ => ⟨S256x16384, .f32⟩
  | .hbm, ⟨2, _⟩ => ⟨S256x16384, .i32⟩
  | .hbm, ⟨3, _⟩ => ⟨S256x16384, .f32⟩
  | .hbm, ⟨4, _⟩ => ⟨S256x16384, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Cells.lean ====
/-
  The sixteen devices' protocol, first part: the devices counted from one of them, the buffers and semaphores the
  kernel uses, and what they hold.

  The scratch buffer is sixteen slots. Device `c` fills slot `c` with the eight largest of each of its rows and sends it
  to slot `c` of every other device, so that in the end every device's scratch holds the same array, `gath`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the protocol's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch state: the given memory and generators, every semaphore at zero. -/
def s₀ : MemSt nD τ sig (Elt F) := ⟨m, fun _ => 0, ρ⟩

/-! ## The devices around `c` -/

set_option backward.proofsInPublic true in
/-- The device `r` places after `c`, cyclically. -/
def pe (c : Dev nD) (r : ℕ) : Dev nD := ⟨(c.val + r) % 16, Nat.mod_lt _ (by decide)⟩

theorem pe_ne (c : Dev nD) (r : ℕ) (h0 : 0 < r) (h : r < 16) : pe c r ≠ c := by
  intro he
  have hc : c.val < 16 := c.isLt
  have := congrArg Fin.val he
  simp only [pe] at this
  omega

theorem pe_image : ∀ c : Dev nD, (Finset.Ico 1 16).image (pe c) = Finset.univ.erase c := by decide

theorem pe_inj (c : Dev nD) : Set.InjOn (pe c) (Finset.Ico 1 16 : Finset ℕ) := by
  intro a ha b hb h
  have ha := Finset.mem_Ico.mp (Finset.mem_coe.mp ha)
  have hb := Finset.mem_Ico.mp (Finset.mem_coe.mp hb)
  have hc : c.val < 16 := c.isLt
  have := congrArg Fin.val h
  simp only [pe] at this
  omega

/-- Something held for each of the devices one to fifteen places after `c` is held for each device other than `c`. -/
theorem bigSep_pe (c : Dev nD) (Φ : Dev nD → sProp 𝕄) :
    bigSep (Finset.Ico 1 16) (fun r => Φ (pe c r)) = bigSep (Finset.univ.erase c) Φ := by
  rw [← pe_image c]
  exact (Finset.fold_image (g := pe c) (pe_inj c)).symm

/-! ## Buffers and semaphores -/

abbrev xM : Memref sig .tc .vmem S256x1024 .f32 := Memref.whole cc0_stg0_0
abbrev oM : Memref sig .tc .vmem S256x8 .f32 := Memref.whole cc0_stg1_0
abbrev rM : Memref sig .tc .vmem S16x256x8 .f32 := Memref.whole cc0_scratch0

/-- The runtime's barrier semaphore. -/
abbrev barS : Sem sig := (SemArray.scalar (sig.barrier 0 rfl) : Sems sig S_).sem
set_option backward.proofsInPublic true in
/-- The send semaphore of the copy to device `t`. -/
def sendS (t : Dev nD) : DmaSem sig := ⟨2 + t.val, by have h : t.val < 16 := t.isLt; show 2 + t.val < 34; omega⟩
set_option backward.proofsInPublic true in
/-- The receive semaphore of device `t`'s copy. -/
def recvS (t : Dev nD) : DmaSem sig := ⟨18 + t.val, by have h : t.val < 16 := t.isLt; show 18 + t.val < 34; omega⟩

abbrev barCell (c : Dev nD) : GSem nD τ sig := ((c : Thread nD τ), .reg barS)
abbrev sendCell (c t : Dev nD) : GSem nD τ sig := ((c : Thread nD τ), .dma (sendS t))
abbrev recvCell (c t : Dev nD) : GSem nD τ sig := ((c : Thread nD τ), .dma (recvS t))

theorem sendS_inj (t t' : Dev nD) (h : sendS t = sendS t') : t = t' := by
  have := congrArg Fin.val h; simp only [sendS] at this; exact Fin.ext (by omega)
theorem recvS_inj (t t' : Dev nD) (h : recvS t = recvS t') : t = t' := by
  have := congrArg Fin.val h; simp only [recvS] at this; exact Fin.ext (by omega)
theorem sendS_ne_recvS (t t' : Dev nD) : sendS t ≠ recvS t' := by
  intro h; have h1 : t.val < 16 := t.isLt
  have := congrArg Fin.val h; simp only [sendS, recvS] at this; omega

/-- The offset of slot `i` in the scratch. -/
abbrev slotOff (i : Dev nD) : Fin 3 → ℕ := ![i.val, 0, 0]

theorem slot_inb (i : Dev nD) (a : Fin 3) : slotOff i a + S1x256x8.size a ≤ S16x256x8.size a := by
  revert i a; decide

/-- Slot `i`: the elements of the scratch whose leading coordinate is `i`. -/
abbrev slotR (i : Dev nD) : Rect S16x256x8 := Rect.unit (s := S16x256x8) (slotOff i) S1x256x8.size (slot_inb i)
def slotM (i : Dev nD) : Memref sig .tc .vmem S256x8 .f32 :=
  (rM.slice (slotR i) (fun _ => rfl)).squeeze S256x8 squeezes_S1x256x8_S256x8

theorem slotM_set (i : Dev nD) : (slotM i).view.set = (slotR i).set := by
  unfold slotM
  rw [Memref.set_view_squeeze]
  exact View.set_slice_whole _ _

/-- A slice of the scratch at offset `i` along the leading axis is slot `i`, however the offset is written. -/
theorem slotM_eq (off : Fin 3 → ℕ) (i : Dev nD) (h : off = slotOff i)
    (p : ∀ a, off a + S1x256x8.size a ≤ S16x256x8.size a) :
    (rM.slice (Rect.unit (s := S16x256x8) off S1x256x8.size p) (fun _ => rfl)).squeeze S256x8 squeezes_S1x256x8_S256x8 = slotM i := by
  subst h; rfl

/-- The index `i` of an array of sixteen. -/
def at16 (i : Dev nD) : S16.Idx := fun a => match a with | ⟨0, _⟩ => (i : Fin 16)

/-- The send semaphore at offset `i` is the one of device `i`, however the offset is written. -/
theorem sendS_eq (off : Fin 1 → ℕ) (i : Dev nD) (h : off = ![i.val])
    (p : ∀ a, off a + S1.size a ≤ S16.size a) :
    ((cc0_scratch1.slice (Rect.unit (s := S16) off S1.size p)).squeeze S_ squeezes_S1_S_).sem = sendS i := by
  subst h
  have hi : ∀ i : Dev nD, (cc0_scratch1 : DmaSems sig S16).ix (at16 i) = sendS i := by decide +kernel
  rw [← hi i]
  refine congrArg (cc0_scratch1 : DmaSems sig S16).ix (funext fun a => ?_)
  obtain rfl : a = 0 := Subsingleton.elim _ _
  exact Fin.ext (by simp [at16]; exact Nat.lt_one_iff.mp (Fin.is_lt _))

/-- The receive semaphore at offset `i` is the one of device `i`, however the offset is written. -/
theorem recvS_eq (off : Fin 1 → ℕ) (i : Dev nD) (h : off = ![i.val])
    (p : ∀ a, off a + S1.size a ≤ S16.size a) :
    ((cc0_scratch2.slice (Rect.unit (s := S16) off S1.size p)).squeeze S_ squeezes_S1_S_).sem = recvS i := by
  subst h
  have hi : ∀ i : Dev nD, (cc0_scratch2 : DmaSems sig S16).ix (at16 i) = recvS i := by decide +kernel
  rw [← hi i]
  refine congrArg (cc0_scratch2 : DmaSems sig S16).ix (funext fun a => ?_)
  obtain rfl : a = 0 := Subsingleton.elim _ _
  exact Fin.ext (by simp [at16]; exact Nat.lt_one_iff.mp (Fin.is_lt _))

/-- The credit one copy of a slot brings. -/
abbrev N : ℕ := (slotM 0).view.dmaCredit
theorem N_eq (i : Dev nD) : (slotM i).view.dmaCredit = N := rfl
theorem N_pos : 0 < N := View.dmaCredit_pos _ (by decide)

/-! ## What the buffers hold -/

/-- Device `c`'s block of the argument, as its window stages it. -/
def xstg (c : Dev nD) : (cc0_stg0_0 : Ref sig .tc).ty.Contents (Elt F) :=
  (win0_0.blk (0 : Fin 1)).view.read (Elt F) ((s₀ m ρ).mem ((c : Thread nD τ).loc main_arg0))

/-- What a device computes of its block: the eight largest of each row, in the kernel's operations. -/
def localTop (x : FVec F S256x1024 .f32) : FVec F S1x256x8 .f32 :=
  k0_pay15 (iota .tc S256x1024 32 [1] iota_S256x1024_d1_w32) (k0_pay3 x)
    (k0_pay7 (k0_pay2 x) (k0_pay4 x) (k0_pay5 (F := F)))
    (k0_pay9 (k0_pay2 x) (iota .tc S256x1024 32 [1] iota_S256x1024_d1_w32) (k0_pay4 x) (k0_pay5 (F := F)))
    (k0_pay11 (k0_pay2 x) (iota .tc S256x1024 32 [1] iota_S256x1024_d1_w32) (k0_pay4 x) (k0_pay5 (F := F)))
    (k0_pay12 (k0_pay2 x) (iota .tc S256x1024 32 [1] iota_S256x1024_d1_w32) (k0_pay4 x) (k0_pay5 (F := F)))
    (k0_pay13 (k0_pay2 x) (iota .tc S256x1024 32 [1] iota_S256x1024_d1_w32) (k0_pay4 x) (k0_pay5 (F := F)))
    (k0_pay14 (k0_pay2 x) (iota .tc S256x1024 32 [1] iota_S256x1024_d1_w32) (k0_pay4 x) (k0_pay5 (F := F)))

/-- An element's place inside its slot. -/
abbrev inSlot (i : S16x256x8.Idx) : S1x256x8.Idx := fun a => match a with
  | ⟨0, _⟩ => (⟨0, Nat.one_pos⟩ : Fin 1) | ⟨1, _⟩ => i 1 | ⟨2, _⟩ => i 2

/-- The gathered array: slot `s` holds what device `s` computed. The same on every device. -/
def gath : (cc0_scratch0 : Ref sig .tc).ty.Contents (Elt F) :=
  fun i => localTop (xstg m ρ (i 0)) (inSlot i)

/-- Slot `i` of device `c`'s scratch, held at share `q` with the contents `f` there. -/
def slotPts (c i : Dev nD) (q : PosShare TreeShare) (f : Buf (Elt F) ((c : Thread nD τ).loc cc0_scratch0)) : sProp 𝕄 :=
  ((c : Thread nD τ).loc cc0_scratch0) ↦[(slotR i).set]{q} f

omit [FloatOps F] in
instance slotPts_storable (c i : Dev nD) (q) (f) : BI.Storable (upEmb : UEmb _ 𝕄) (slotPts (F := F) c i q f) := by
  unfold slotPts; infer_instance

/-- The sixteen slots are the scratch. -/
theorem slots_eq (c : Dev nD) (q : PosShare TreeShare) (f : Buf (Elt F) ((c : Thread nD τ).loc cc0_scratch0)) :
    ((((c : Thread nD τ).loc cc0_scratch0) ↦{q} f : sProp 𝕄)) = bigSep Finset.univ (fun i => slotPts c i q f) := by
  unfold slotPts
  have hd := Ring.lead_disjoint (s := S16x256x8) (NB := 16) (0 : Fin 3) 1 slotOff S1x256x8.size slot_inb (fun b => (Nat.one_mul _).symm) rfl
  have hc := Ring.lead_cover (s := S16x256x8) (NB := 16) (0 : Fin 3) 1 slotOff S1x256x8.size slot_inb (fun b => (Nat.one_mul _).symm)
    (by decide) rfl (by decide) rfl
  exact Ring.pointsTo_blocks (ℓ := (c : Thread nD τ).loc cc0_scratch0) (B := Dev nD) (fun i : Dev nD => (slotR i).set) hd hc f

omit [FloatOps F] in
/-- Contents that agree on the slot are held alike. -/
theorem slotPts_congr (c i : Dev nD) (q : PosShare TreeShare) {f g : Buf (Elt F) ((c : Thread nD τ).loc cc0_scratch0)}
    (h : ∀ e ∈ (slotR i).set, f e = g e) : (slotPts c i q f : sProp 𝕄) = slotPts c i q g := by
  unfold slotPts; exact pointsTo_congr h

omit [FloatOps F] in
/-- A slot written with what another buffer holds there holds that. -/
theorem copied_eq (i : Dev nD) (fd fs : (cc0_scratch0 : Ref sig .tc).ty.Contents (Elt F)) :
    ∀ e ∈ (slotR i).set, (slotM i).view.write (Elt F) fd ((slotM i).view.read (Elt F) fs) Finset.univ e = fs e := by
  intro e he
  rw [← slotM_set i] at he
  exact (congrFun (View.write_read_eq_piecewise (v := (slotM i).view) (Val := Elt F) fd fs Finset.univ) e).trans
    (Finset.piecewise_eq_of_mem _ _ _ he)

omit [FloatOps F] in
/-- The local store's window is the slot. -/
theorem stored_set (i : Dev nD) : ((rM : Memref sig .tc .vmem S16x256x8 .f32).access (slotR i)).set = (slotR i).set :=
  View.set_slice_whole _ _

/-- After its local store a device's own slot holds the gathered array's slot. -/
theorem stored_eq (c : Dev nD) (f : (cc0_scratch0 : Ref sig .tc).ty.Contents (Elt F)) :
    ∀ e ∈ (slotR c).set,
      ((rM : Memref sig .tc .vmem S16x256x8 .f32).access (slotR c)).write (Elt F) f (localTop (xstg m ρ c)) Finset.univ e = gath m ρ e := by
  intro e he
  obtain ⟨j, rfl⟩ : ∃ j, e = (slotR c).emb j := by
    rw [← Rect.map_emb_univ] at he
    obtain ⟨j, -, hj⟩ := Finset.mem_map.mp he
    exact ⟨j, hj.symm⟩
  refine (View.write_emb_of_mem (v := ((rM : Memref sig .tc .vmem S16x256x8 .f32).access (slotR c))) (Val := Elt F) f (localTop (xstg m ρ c)) (Finset.mem_univ j)).trans ?_
  show localTop (xstg m ρ c) j = localTop (xstg m ρ (((slotR c).emb j) 0)) (inSlot ((slotR c).emb j))
  have h0 : ((slotR c).emb j) 0 = c := Fin.ext (by
    have : (j 0).val < 1 := (j 0).isLt
    show c.val + 1 * (j 0).val = c.val
    omega)
  have hj : inSlot ((slotR c).emb j) = j := by
    funext a
    match a with
    | ⟨0, _⟩ => exact Fin.ext (by have : (j 0).val < 1 := (j 0).isLt; show 0 = (j 0).val; omega)
    | ⟨1, _⟩ => exact Fin.ext (by show 0 + 1 * (j 1).val = (j 1).val; omega)
    | ⟨2, _⟩ => exact Fin.ext (by show 0 + 1 * (j 2).val = (j 2).val; omega)
  rw [h0, hj]

end Cert.Exchange

end
-- ==== Proof.Sched.lean ====
/-
  The protocol's schedule: one round. Every device pays every other device's barrier semaphore one unit, handing over
  the slot of its scratch that device writes to; the copy from `c` to `t` pays `c`'s send semaphore (handing back the
  share of slot `c` that was read) and `t`'s receive semaphore (handing over slot `c`, holding the gathered array).
  Then what a device owes while it runs, and the order the semaphores are waited on.
-/
module

public import proofs.«01_k».proof.Proof.Cells

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The share of its own slot a device reads the copy to `t` from. -/
abbrev tokShare (t : Dev nD) : PosShare TreeShare := Idealize.ShloMosaic.Transfers.shareTok fullShare 16 t

/-- One round, round 0: a barrier cell's duties are named by the other fifteen devices, a transfer cell's by its peer. -/
def sched : Rounds.Schedule (GSem nD τ sig) (Dev nD) 𝕄 where
  duties g r := if r = 0 ∧ g.1.2 = .tc then
      (if g.2 = .reg barS then Finset.univ.erase g.1.1
       else Finset.univ.filter fun t => t ≠ g.1.1 ∧ (g.2 = .dma (sendS t) ∨ g.2 = .dma (recvS t)))
    else ∅
  unitless _ := False
  amount g _ _ := if g.2 = .reg barS then 1 else N
  payload g _ d :=
    if g.2 = .reg barS then iprop(∃ f, slotPts d g.1.1 fullShare f)
    else if g.2 = .dma (sendS d) then slotPts g.1.1 g.1.1 (tokShare d) (gath m ρ)
    else if g.2 = .dma (recvS d) then slotPts g.1.1 d fullShare (gath m ρ)
    else iprop(emp)
  amount_pos g _ _ _ := by
    by_cases h : g.2 = .reg barS
    · rw [if_pos h]; exact Nat.one_pos
    · rw [if_neg h]; exact N_pos

instance sched_storable (g : GSem nD τ sig) (r : ℕ) (d : Dev nD) :
    BI.Storable (upEmb : UEmb _ 𝕄) ((sched (F := F) m ρ).payload g r d) := by
  show BI.Storable upEmb (if g.2 = .reg barS then iprop(∃ f, slotPts d g.1.1 fullShare f)
    else if g.2 = .dma (sendS d) then slotPts g.1.1 g.1.1 (tokShare d) (gath m ρ)
    else if g.2 = .dma (recvS d) then slotPts g.1.1 d fullShare (gath m ρ) else iprop(emp))
  (repeat' split) <;> infer_instance

section Facts
variable (c t : Dev nD)

theorem dma_ne_bar (q : DmaSem sig) : (SemLoc.dma q : SemLoc sig) ≠ .reg barS := fun h => by cases h
theorem recv_ne_send (t t' : Dev nD) : (SemLoc.dma (recvS t) : SemLoc sig) ≠ .dma (sendS t') :=
  fun h => sendS_ne_recvS t' t (SemLoc.dma.inj h).symm

theorem duties_bar : (sched (F := F) m ρ).duties (barCell c) 0 = Finset.univ.erase c := by
  dsimp only [sched]; rw [if_pos ⟨rfl, rfl⟩, if_pos rfl]
theorem duties_send : (sched (F := F) m ρ).duties (sendCell c t) 0 = if t = c then ∅ else {t} := by
  dsimp only [sched]; rw [if_pos ⟨rfl, rfl⟩, if_neg (dma_ne_bar _)]
  ext d
  rw [Finset.mem_filter]
  constructor
  · rintro ⟨-, hd, h | h⟩
    · have := sendS_inj _ _ (SemLoc.dma.inj h); subst this; rw [if_neg hd]; exact Finset.mem_singleton_self _
    · exact absurd h.symm (recv_ne_send _ _)
  · intro h
    by_cases htc : t = c
    · rw [if_pos htc] at h; exact absurd h (Finset.notMem_empty _)
    · rw [if_neg htc, Finset.mem_singleton] at h; subst h; exact ⟨Finset.mem_univ _, htc, .inl rfl⟩
theorem duties_recv : (sched (F := F) m ρ).duties (recvCell c t) 0 = if t = c then ∅ else {t} := by
  dsimp only [sched]; rw [if_pos ⟨rfl, rfl⟩, if_neg (dma_ne_bar _)]
  ext d
  rw [Finset.mem_filter]
  constructor
  · rintro ⟨-, hd, h | h⟩
    · exact absurd h (recv_ne_send _ _)
    · have := recvS_inj _ _ (SemLoc.dma.inj h); subst this; rw [if_neg hd]; exact Finset.mem_singleton_self _
  · intro h
    by_cases htc : t = c
    · rw [if_pos htc] at h; exact absurd h (Finset.notMem_empty _)
    · rw [if_neg htc, Finset.mem_singleton] at h; subst h; exact ⟨Finset.mem_univ _, htc, .inr rfl⟩
theorem duties_later (g : GSem nD τ sig) : ∀ r, 1 ≤ r → (sched (F := F) m ρ).duties g r = ∅ :=
  fun r hr => by dsimp only [sched]; rw [if_neg fun h => by omega]
/-- A device's cell for itself has no duty at all. -/
theorem duties_send_self : ∀ r, 0 ≤ r → (sched (F := F) m ρ).duties (sendCell c c) r = ∅ := fun r _ => by
  rcases Nat.eq_zero_or_pos r with rfl | h
  · rw [duties_send, if_pos rfl]
  · exact duties_later m ρ _ r h
theorem duties_recv_self : ∀ r, 0 ≤ r → (sched (F := F) m ρ).duties (recvCell c c) r = ∅ := fun r _ => by
  rcases Nat.eq_zero_or_pos r with rfl | h
  · rw [duties_recv, if_pos rfl]
  · exact duties_later m ρ _ r h

theorem amount_bar (d : Dev nD) : (sched (F := F) m ρ).amount (barCell c) 0 d = 1 := by dsimp only [sched]; exact if_pos rfl
theorem amount_send (d : Dev nD) : (sched (F := F) m ρ).amount (sendCell c t) 0 d = N := by dsimp only [sched]; exact if_neg (dma_ne_bar _)
theorem amount_recv (d : Dev nD) : (sched (F := F) m ρ).amount (recvCell c t) 0 d = N := by dsimp only [sched]; exact if_neg (dma_ne_bar _)

theorem expect_bar : (sched (F := F) m ρ).expect (barCell c) 0 = 15 := by
  unfold Schedule.expect Schedule.amountOf
  rw [duties_bar, Finset.sum_congr rfl fun d _ => amount_bar m ρ c d, Finset.sum_const, Finset.card_erase_of_mem (Finset.mem_univ _)]
  rfl
theorem expect_send (h : t ≠ c) : (sched (F := F) m ρ).expect (sendCell c t) 0 = N := by
  unfold Schedule.expect Schedule.amountOf; rw [duties_send, if_neg h, Finset.sum_singleton, amount_send]
theorem expect_recv (h : t ≠ c) : (sched (F := F) m ρ).expect (recvCell c t) 0 = N := by
  unfold Schedule.expect Schedule.amountOf; rw [duties_recv, if_neg h, Finset.sum_singleton, amount_recv]

theorem payload_bar (d : Dev nD) : (sched (F := F) m ρ).payload (barCell c) 0 d = iprop(∃ f, slotPts d c fullShare f) := by
  dsimp only [sched]; exact if_pos rfl
theorem payload_send : (sched (F := F) m ρ).payload (sendCell c t) 0 t = slotPts c c (tokShare t) (gath m ρ) := by
  dsimp only [sched]; rw [if_neg (dma_ne_bar _), if_pos rfl]
theorem payload_recv : (sched (F := F) m ρ).payload (recvCell c t) 0 t = slotPts c t fullShare (gath m ρ) := by
  dsimp only [sched]; rw [if_neg (dma_ne_bar _), if_neg (recv_ne_send _ _), if_pos rfl]

/-- What the barrier wait brings: slot `c` of each device one to fifteen places on. -/
theorem rest_bar : bigSep ((sched (F := F) m ρ).duties (barCell c) 0 \ ∅) (fun d => (sched (F := F) m ρ).payload (barCell c) 0 d)
    = bigSep (Finset.Ico 1 16) (fun r => (iprop(∃ f, slotPts (pe c r) c fullShare f) : sProp 𝕄)) := by
  rw [Finset.sdiff_empty, duties_bar, bigSep_pe c (fun d => (iprop(∃ f, slotPts d c fullShare f) : sProp 𝕄))]
  exact bigSep_congr fun d _ => payload_bar m ρ c d
theorem rest_send (h : t ≠ c) : bigSep ((sched (F := F) m ρ).duties (sendCell c t) 0 \ ∅) (fun d => (sched (F := F) m ρ).payload (sendCell c t) 0 d)
    = slotPts c c (tokShare t) (gath m ρ) := by
  rw [Finset.sdiff_empty, duties_send, if_neg h, bigSep_singleton, payload_send]
theorem rest_recv (h : t ≠ c) : bigSep ((sched (F := F) m ρ).duties (recvCell c t) 0 \ ∅) (fun d => (sched (F := F) m ρ).payload (recvCell c t) 0 d)
    = slotPts c t fullShare (gath m ρ) := by
  rw [Finset.sdiff_empty, duties_recv, if_neg h, bigSep_singleton, payload_recv]

end Facts

/-! ## What a device owes; the order of waiting -/

/-- The copies device `c` still owes once it has made those to the first `k - 1` devices after it. -/
def owedRecv (c : Dev nD) (k : ℕ) : CellTallies nD τ sig Unit := ∑ r ∈ Finset.Ico k 16, tallyAt (recvCell (pe c r) c) () N
/-- The barrier units it still owes. -/
def owedBar (c : Dev nD) (k : ℕ) : CellTallies nD τ sig Unit := ∑ r ∈ Finset.Ico k 16, tallyAt (barCell (pe c r)) () 1
def O₀ (c : Dev nD) : CellTallies nD τ sig Unit := owedRecv c 1 + owedBar c 1

theorem owedRecv_step (c : Dev nD) (k : ℕ) (h : k < 16) : owedRecv c k = owedRecv c (k + 1) + tallyAt (recvCell (pe c k) c) () N := by
  unfold owedRecv; rw [Ring.sum_Ico_succ h, add_comm]
theorem owedBar_step (c : Dev nD) (k : ℕ) (h : k < 16) : owedBar c k = owedBar c (k + 1) + tallyAt (barCell (pe c k)) () 1 := by
  unfold owedBar; rw [Ring.sum_Ico_succ h, add_comm]
theorem owedRecv_end (c : Dev nD) : owedRecv c 16 = 0 := by unfold owedRecv; rw [Finset.Ico_self, Finset.sum_empty]
theorem owedBar_end (c : Dev nD) : owedBar c 16 = 0 := by unfold owedBar; rw [Finset.Ico_self, Finset.sum_empty]

/-- A sum of one-cell tallies is positive only at one of the cells. -/
theorem sum_tally_pos (s : Finset ℕ) (f : ℕ → GSem nD τ sig) (n : ℕ) {g : GSem nD τ sig} {u : Unit}
    (h : 0 < (∑ r ∈ s, (tallyAt (f r) () n : CellTallies nD τ sig Unit)) g u) : ∃ r ∈ s, g = f r := by
  by_contra hn
  simp only [not_exists, not_and] at hn
  rw [Finset.sum_apply, Finsupp.finset_sum_apply, Finset.sum_eq_zero] at h
  · exact Nat.lt_irrefl 0 h
  · intro r hr; rw [tallyAt_apply, if_neg fun h' => hn r hr h'.1]

theorem owedRecv_pos {c : Dev nD} {k : ℕ} {g : GSem nD τ sig} {u : Unit} (h : 0 < owedRecv c k g u) : ∃ t, g = recvCell t c := by
  obtain ⟨r, -, hr⟩ := sum_tally_pos _ (fun r => recvCell (pe c r) c) N h; exact ⟨_, hr⟩
theorem owedBar_pos {c : Dev nD} {k : ℕ} {g : GSem nD τ sig} {u : Unit} (h : 0 < owedBar c k g u) : ∃ t, g = barCell t := by
  obtain ⟨r, -, hr⟩ := sum_tally_pos _ (fun r => barCell (pe c r)) 1 h; exact ⟨_, hr⟩
theorem O₀_pos {c : Dev nD} {g : GSem nD τ sig} {u : Unit} (h : 0 < O₀ c g u) : (∃ t, g = recvCell t c) ∨ ∃ t, g = barCell t := by
  unfold O₀ at h
  rw [Pi.add_apply, Finsupp.add_apply] at h
  rcases Nat.eq_zero_or_pos (owedRecv c 1 g u) with h0 | h0
  · exact .inr (owedBar_pos (k := 1) (u := u) (c := c) (by omega))
  · exact .inl (owedRecv_pos h0)

def L (g : GSem nD τ sig) : Finset Unit := if g.1.2 = .tc then {()} else ∅
open Classical in
/-- Barrier semaphores at 1, receive semaphores at 2, the rest at 0. -/
def lv (g : GSem nD τ sig) (_ : Unit) : ℕ := if g.2 = .reg barS then 1 else if ∃ t, g.2 = .dma (recvS t) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c t : Dev nD) (u : Unit) : lv (recvCell c t) u = 2 := by
  unfold lv; rw [if_neg (dma_ne_bar _), if_pos ⟨t, rfl⟩]

omit [FloatOps F] in
theorem mayWait_stage (c : Dev nD) (q : DmaSem sig) (hq : ∀ t, q ≠ recvS t) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨t, rfl⟩ <;> exact Finset.mem_singleton_self _)
      (fun p hp => by
        rw [Finset.mem_singleton.mp hp]; dsimp only [lv]
        rw [if_neg (dma_ne_bar _), if_neg]
        rintro ⟨t, ht⟩; exact hq t (SemLoc.dma.inj ht))
      (fun g u hg => by
        rcases O₀_pos hg with ⟨t, rfl⟩ | ⟨t, rfl⟩
        · rw [lv_recv]; decide
        · rw [lv_bar]; decide)
  · rw [MayWait_zero]; iintro -; iempintro

omit [FloatOps F] in
/-- At its barrier wait a device owes copies only, to receive cells, above its barrier cell. -/
theorem mayWait_bar (c : Dev nD) (k : ℕ) :
    (levAts L lv : sProp 𝕄) ⊢ MayWait (c : Thread nD τ) (.reg barS) () (owedRecv c k) :=
  MayOwe.of_cut (L := L) (lev := lv) 1 (fun p hp => by rw [Finset.mem_singleton.mp hp, L_tc]; exact Finset.mem_singleton_self _)
    (fun g u hg => by obtain ⟨t, rfl⟩ := owedRecv_pos hg; rw [L_tc]; exact Finset.mem_singleton_self _)
    (fun p hp => by rw [Finset.mem_singleton.mp hp]; exact (lv_bar c _).le)
    (fun g u hg => by obtain ⟨t, rfl⟩ := owedRecv_pos hg; rw [lv_recv]; decide)

end Cert.Exchange

end
-- ==== Proof.Steps.lean ====
/-
  One rule per kind of operation of the exchange, each from a state numbered by how many of its fifteen operations are
  done to the next one.
-/
module

public import proofs.«01_k».proof.Proof.Sched
public import Idealize.SL.BI.BigOpNat

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells' invariants, known to every device -/

/-- The cells of one device: its barrier's; for each device the send cell to it and the receive cell from it. -/
abbrev CIx : Type := Unit ⊕ (Dev nD ⊕ Dev nD)
/-- The kernel's own semaphores. -/
abbrev osem : Dev nD ⊕ Dev nD → SemLoc sig := fun | .inl t => .dma (sendS t) | .inr t => .dma (recvS t)
abbrev csem : CIx → SemLoc sig := fun | .inl _ => .reg barS | .inr k => osem k
abbrev kcell (ck : Dev nD × CIx) : GSem nD τ sig := ((ck.1 : Thread nD τ), csem ck.2)

/-- Every cell's invariant, under the names `K`, and that it has reached round 0. -/
def records (K : Dev nD × CIx → ℕ) : sProp 𝕄 :=
  bigSep Finset.univ fun ck => iprop(cellInv ER (sched m ρ) (K ck) (kcell ck) ∗ reached ER (kcell ck) 0)
instance records_persistent (K : Dev nD × CIx → ℕ) : BI.Persistent (records m ρ K) := by unfold records; infer_instance

/-- What every step may use: the invariants and the levels. -/
def env (K : Dev nD × CIx → ℕ) : sProp 𝕄 := iprop(records m ρ K ∗ levAts L lv)
instance env_persistent (K : Dev nD × CIx → ℕ) : BI.Persistent (env m ρ K) := by unfold env; infer_instance

theorem env_cell (K : Dev nD × CIx → ℕ) (ck : Dev nD × CIx) :
    env m ρ K ⊢ iprop(cellInv ER (sched m ρ) (K ck) (kcell ck) ∗ reached ER (kcell ck) 0) := by
  unfold env records
  iintro ⟨H, -⟩
  have h : (bigSep Finset.univ fun ck : Dev nD × CIx => iprop(cellInv ER (sched m ρ) (K ck) (kcell ck) ∗ reached ER (kcell ck) 0))
      ⊢ (iprop(cellInv ER (sched m ρ) (K ck) (kcell ck) ∗ reached ER (kcell ck) 0) : sProp 𝕄) := bigSep_elim (Finset.mem_univ ck)
  iapply h
  iexact H
theorem env_mayWait (K : Dev nD × CIx → ℕ) (c : Dev nD) : env m ρ K ⊢ (MayWait (c : Thread nD τ) (.reg barS) () (owedRecv c 1) : sProp 𝕄) := by
  unfold env; iintro ⟨-, H⟩; iapply (mayWait_bar c 1); iexact H

/-! ## The states -/

/-- Device `c` owes `O`, whatever it has waited on. -/
def dues (c : Dev nD) (O : CellTallies nD τ sig Unit) : sProp 𝕄 := iprop(∃ W, owes (c : Thread nD τ) O W)

/-- Before signal `k`: the barrier duties and the slots still to hand over. -/
def S1 (c : Dev nD) (k : ℕ) : sProp 𝕄 :=
  iprop(dues c (owedRecv c 1 + owedBar c k)
    ∗ bigSep (Finset.Ico k 16) (fun r => iprop(dutyTok ER (barCell (pe c r)) 0 c ∗ ∃ f, slotPts c (pe c r) fullShare f)))

/-- Before copy `k`: for the copies to come a share of the own slot, the peer's slot and the two duties; for those made
    the credit of the send cell. -/
def S2 (c : Dev nD) (k : ℕ) : sProp 𝕄 :=
  iprop(dues c (owedRecv c k)
    ∗ bigSep (Finset.Ico k 16) (fun r => iprop(slotPts c c (tokShare (pe c r)) (gath m ρ) ∗ (∃ f, slotPts (pe c r) c fullShare f)
        ∗ dutyTok ER (sendCell c (pe c r)) 0 (pe c r) ∗ dutyTok ER (recvCell (pe c r) c) 0 c))
    ∗ bigSep (Finset.Ico 1 k) (fun r => cred (tallyAt (sendCell c (pe c r)) () N)))

/-- Before receive wait `k`. -/
def S3 (c : Dev nD) (k : ℕ) : sProp 𝕄 :=
  iprop(dues c 0
    ∗ bigSep (Finset.Ico k 16) (fun r => iprop(cred (tallyAt (recvCell c (pe c r)) () N) ∗ atPos ER (recvCell c (pe c r)) 0 ∅ 0))
    ∗ bigSep (Finset.Ico 1 k) (fun r => iprop(slotPts c (pe c r) fullShare (gath m ρ) ∗ semVal (recvCell c (pe c r)) 0)))

/-- Before send wait `k`. -/
def S4 (c : Dev nD) (k : ℕ) : sProp 𝕄 :=
  iprop(dues c 0
    ∗ bigSep (Finset.Ico k 16) (fun r => iprop(cred (tallyAt (sendCell c (pe c r)) () N) ∗ atPos ER (sendCell c (pe c r)) 0 ∅ 0))
    ∗ bigSep (Finset.Ico 1 k) (fun r => iprop(slotPts c c (tokShare (pe c r)) (gath m ρ) ∗ semVal (sendCell c (pe c r)) 0)))

/-! ## The steps -/

abbrev 𝒱₀ : Variants := Variants.none

variable (K : Dev nD × CIx → ℕ) (c : Dev nD)

/-- Signal `r`: device `c` tells the device `r` places after it that its slot may be written. -/
theorem step_signal {α : Type} (n : Dev nD) (r : ℕ) (hn : n = pe c r) (h0 : 1 ≤ r) (h : r < 16)
    {k : PUnit → Prog (TpuEff nD τ sig (Elt F) Λ₀ .tc) α} {Q : α → sProp 𝕄} {R : sProp 𝕄}
    (H : iprop(env m ρ K ∗ S1 c (r + 1) ∗ R) ⊢ wp frame (wpE (defs₀ (F := F)) 𝒱₀ (c : Thread nD τ) none) Set.univ (k ⟨⟩) Q) :
    iprop(env m ρ K ∗ S1 c r ∗ R) ⊢ wp frame (wpE (defs₀ (F := F)) 𝒱₀ (c : Thread nD τ) none) Set.univ
      (semSignalWord n barS 1#32 >>= k) Q := by
  subst hn
  simp only [semSignalWord, Prog.bind_op, Prog.bind_ret]
  unfold S1 dues
  rw [bigSep_Ico_succ_bot h]
  iintro ⟨#He, ⟨⟨%W, HO⟩, ⟨Ht, Hs⟩, Hrest⟩, HR⟩
  ihave #HI := (env_cell m ρ K (pe c r, .inl ())) $$ He
  icases HI with ⟨#HI1, #HI2⟩
  iapply (Rounds.wp_signal 𝒱₀ ER (sched m ρ) (c : Thread nD τ) none (dst := (pe c r : Thread nD τ)) (κ := K (pe c r, .inl ()))
      (d := c) (by rw [duties_bar]; exact Finset.mem_erase.mpr ⟨(pe_ne c r h0 h).symm, Finset.mem_univ _⟩)
      ((amount_bar m ρ (pe c r) c).trans (by decide)) () (owedRecv c 1 + owedBar c (r + 1))
      (O₀ := owedRecv c 1 + owedBar c r) (by rw [owedBar_step c r h, ← add_assoc]; rfl)) $$ [HO Ht Hs]
  · isplitr; · iexact HI1
    isplitl [HO]; · iexact HO
    isplitl [Ht]; · iexact Ht
    isplitl [Hs]; · rw [payload_bar]; iexact Hs
    iexact HI2
  iintro HO
  iapply H
  isplitr; · iexact He
  isplitr [HR]
  · unfold S1 dues
    isplitl [HO]; · iexists W; iexact HO
    iexact Hrest
  · iexact HR

/-- The barrier wait: every other device's slot `c` may be written. -/
theorem step_barrier {α : Type} {k : PUnit → Prog (TpuEff nD τ sig (Elt F) Λ₀ .tc) α} {Q : α → sProp 𝕄} {R : sProp 𝕄}
    (H : iprop(env m ρ K ∗ (dues c (owedRecv c 1) ∗ semVal (barCell c) 0 ∗ bigSep (Finset.Ico 1 16) (fun r => iprop(∃ f, slotPts (pe c r) c fullShare f))) ∗ R)
      ⊢ wp frame (wpE (defs₀ (F := F)) 𝒱₀ (c : Thread nD τ) none) Set.univ (k ⟨⟩) Q) :
    iprop(env m ρ K ∗ S1 c 16 ∗ (cred (tallyAt (barCell c) () 15) ∗ atPos ER (barCell c) 0 ∅ 0) ∗ R)
      ⊢ wp frame (wpE (defs₀ (F := F)) 𝒱₀ (c : Thread nD τ) none) Set.univ (semWaitWord barS 15#32 >>= k) Q := by
  simp only [semWaitWord, Prog.bind_op, Prog.bind_ret]
  unfold S1 dues
  rw [owedBar_end, add_zero]
  iintro ⟨#He, ⟨⟨%W, HO⟩, -⟩, ⟨Hc, Hat⟩, HR⟩
  ihave #Hmay := (env_mayWait m ρ K c) $$ He
  ihave #HI := (env_cell m ρ K (c, .inl ())) $$ He
  icases HI with ⟨#HI1, #HI2⟩
  iapply (Rounds.wp_wait_rest_token 𝒱₀ ER (sched m ρ) (c : Thread nD τ) none (κ := K (c, .inl ()))
      (wpE_semWait_eq 𝒱₀ (c : Thread nD τ) none Set.univ) (Set.mem_univ _) () (O := owedRecv c 1) (W := W) (R := 0) (m := 0) (T := ∅)
      ((Nat.zero_add _).trans (expect_bar m ρ c).symm)) $$ [Hc HO Hat]
  · isplitr; · iexact HI1
    isplitl [Hc]; · iexact Hc
    isplitl [HO]; · iexact HO
    isplitr; · iexact Hmay
    iexact Hat
  iintro ⟨HO, Hat, -, Hpay⟩
  ihave Hp := (Entails.of_eq (rest_bar m ρ c)) $$ Hpay
  imod (Rounds.cell_close ER (sched m ρ) (Set.mem_univ (K (c, .inl ()))) (fun h => h) (R := 0 + 1) (duties_later m ρ (barCell c))) $$ [Hat] with Hz
  · isplitr; · iexact HI1
    iexact Hat
  iapply H
  isplitr; · iexact He
  isplitr [HR]
  · isplitl [HO]; · unfold dues; iexists (insert (SemLoc.reg barS, ()) W); iexact HO
    isplitl [Hz]; · iexact Hz
    iexact Hp
  · iexact HR

/-- Copy `r`: device `c`'s slot to the same slot of the device `r` places after it. -/
theorem step_send {α : Type} (n : Dev nD) (r : ℕ) (hn : n = pe c r) (h0 : 1 ≤ r) (h : r < 16)
    (sS sR : DmaSem sig) (hsS : sS = sendS (pe c r)) (hsR : sR = recvS c)
    (A B : Memref sig .tc .vmem S256x8 .f32) (hA : A = slotM c) (hB : B = slotM c)
    {hsc : (B : Memref sig (Dev.tc n : Thread nD τ).2.kind .vmem S256x8 .f32).view.ref.isScScratch = false}
    {hsrc : A.view.WordExact} {hdst : B.view.WordExact}
    {hsem : DmaTarget.Typed .vmem (.dma sR) (.remote (Dev.tc n : Thread nD τ) B (.dma sS) hsc)}
    {k : PUnit → Prog (TpuEff nD τ sig (Elt F) Λ₀ .tc) α} {Q : α → sProp 𝕄} {R : sProp 𝕄}
    (H : iprop(env m ρ K ∗ S2 m ρ c (r + 1) ∗ R) ⊢ wp frame (wpE (defs₀ (F := F)) 𝒱₀ (c : Thread nD τ) none) Set.univ (k ⟨⟩) Q) :
    iprop(env m ρ K ∗ S2 m ρ c r ∗ R) ⊢ wp frame (wpE (defs₀ (F := F)) 𝒱₀ (c : Thread nD τ) none) Set.univ
      (Prog.lift (.enqueueDma A (.remote (Dev.tc n : Thread nD τ) B (.dma sS) hsc) (.dma sR) hsrc hdst hsem) >>= k) Q := by
  subst hn hsS hsR hA hB
  simp only [Prog.lift, Prog.bind_op, Prog.bind_ret]
  unfold S2 dues
  rw [bigSep_Ico_succ_bot h]
  iintro ⟨#He, ⟨⟨%W, HO⟩, ⟨⟨Hs, ⟨%fd, Hd⟩, Ht1, Ht2⟩, Hrest⟩, Hdone⟩, HR⟩
  ihave #HI := (env_cell m ρ K (c, .inr (.inl (pe c r)))) $$ He
  icases HI with ⟨#HI1, #HI2⟩
  ihave #HJ := (env_cell m ρ K (pe c r, .inr (.inr c))) $$ He
  icases HJ with ⟨#HJ1, #HJ2⟩
  have hset : (slotM c).view.set = (slotR c).set := slotM_set c
  iapply (Rounds.wp_send_pointsTo 𝒱₀ ER (sched m ρ) (c : Thread nD τ) none (κ₁ := K (c, .inr (.inl (pe c r)))) (κ₂ := K (pe c r, .inr (.inr c)))
    (c' := (pe c r : Thread nD τ)) (src := slotM c) (dst := slotM c) (fs := gath m ρ) (q := tokShare (pe c r))
    (r₁ := 0) (r₂ := 0) (d₁ := pe c r) (d₂ := c) (fd := fd)
    (by rw [duties_send, if_neg (pe_ne c r h0 h)]; exact Finset.mem_singleton_self _)
    (by rw [duties_recv, if_neg (pe_ne c r h0 h).symm]; exact Finset.mem_singleton_self _)
    () () N rfl (amount_send m ρ c _ _) (amount_recv m ρ _ c _) (owedRecv c (r + 1)) (owedRecv_step c r h) (W := W)
    (by rw [payload_send]; unfold slotPts; rw [hset]; exact BI.Entails.refl _)
    (by rw [payload_recv, hset]; exact Entails.of_eq (slotPts_congr (pe c r) c fullShare (copied_eq c fd (gath m ρ))))) $$ [Hs Hd HO Ht1 Ht2]
  · isplitr; · iexact HI1
    isplitr; · iexact HJ1
    isplitl [Hs]; · unfold slotPts; rw [hset]; iexact Hs
    isplitl [Hd]; · unfold slotPts; rw [hset]; iexact Hd
    isplitl [HO]; · iexact HO
    isplitl [Ht1]; · iexact Ht1
    isplitr; · iexact HI2
    isplitl [Ht2]; · iexact Ht2
    iexact HJ2
  iintro ⟨Hc, HO⟩
  iapply H
  isplitr; · iexact He
  isplitr [HR]
  · unfold S2 dues
    rw [bigSep_Ico_succ_top h0]
    isplitl [HO]; · iexists W; iexact HO
    isplitl [Hrest]; · iexact Hrest
    isplitl [Hc] <;> iassumption
  · iexact HR

/-- Receive wait `r`: the slot of the device `r` places after `c` has arrived. -/
theorem step_recv {α : Type} (r : ℕ) (h0 : 1 ≤ r) (h : r < 16) (sR : DmaSem sig) (hsR : sR = recvS (pe c r))
    (A B : Memref sig .tc .vmem S256x8 .f32) (i : Dev nD) (hB : B = slotM i)
    {hsrc : A.view.WordExact} {hdst : B.view.WordExact}
    {k : PUnit → Prog (TpuEff nD τ sig (Elt F) Λ₀ .tc) α} {Q : α → sProp 𝕄} {R : sProp 𝕄}
    (H : iprop(env m ρ K ∗ S3 m ρ c (r + 1) ∗ R) ⊢ wp frame (wpE (defs₀ (F := F)) 𝒱₀ (c : Thread nD τ) none) Set.univ (k ⟨⟩) Q) :
    iprop(env m ρ K ∗ S3 m ρ c r ∗ R) ⊢ wp frame (wpE (defs₀ (F := F)) 𝒱₀ (c : Thread nD τ) none) Set.univ
      (Prog.lift (.waitDma2 sR A B hsrc hdst) >>= k) Q := by
  subst hsR hB
  simp only [Prog.lift, Prog.bind_op, Prog.bind_ret]
  unfold S3 dues
  rw [bigSep_Ico_succ_bot h]
  iintro ⟨#He, ⟨⟨%W, HO⟩, ⟨⟨Hc, Hat⟩, Hrest⟩, Hdone⟩, HR⟩
  ihave #HI := (env_cell m ρ K (c, .inr (.inr (pe c r)))) $$ He
  icases HI with ⟨#HI1, #HI2⟩
  iapply (Rounds.wp_wait_rest_token 𝒱₀ ER (sched m ρ) (c : Thread nD τ) none (κ := K (c, .inr (.inr (pe c r))))
      (wpE_waitDma2_eq 𝒱₀ (c : Thread nD τ) none Set.univ) (Set.mem_univ _) () (O := 0) (W := W) (R := 0) (m := 0) (T := ∅)
      (by rw [Nat.zero_add, expect_recv m ρ c _ (pe_ne c r h0 h)])) $$ [Hc HO Hat]
  · isplitr; · iexact HI1
    isplitl [Hc]; · iexact Hc
    isplitl [HO]; · iexact HO
    isplitr; · rw [MayWait_zero]; iempintro
    iexact Hat
  iintro ⟨HO, Hat, -, Hpay⟩
  ihave Hp := (Entails.of_eq (rest_recv m ρ c _ (pe_ne c r h0 h))) $$ Hpay
  imod (Rounds.cell_close ER (sched m ρ) (Set.mem_univ (K (c, .inr (.inr (pe c r))))) (fun h => h) (R := 0 + 1)
    (duties_later m ρ (recvCell c (pe c r)))) $$ [Hat] with Hz
  · isplitr; · iexact HI1
    iexact Hat
  iapply H
  isplitr; · iexact He
  isplitr [HR]
  · unfold S3 dues
    rw [bigSep_Ico_succ_top h0]
    isplitl [HO]; · iexists (insert (SemLoc.dma (recvS (pe c r)), ()) W); iexact HO
    isplitl [Hrest]; · iexact Hrest
    isplitl [Hp Hz]
    · isplitl [Hp] <;> iassumption
    · iexact Hdone
  · iexact HR

/-- Send wait `r`: the share lent to the copy to the device `r` places after `c` is back. -/
theorem step_sent {α : Type} (r : ℕ) (h0 : 1 ≤ r) (h : r < 16) (sS : DmaSem sig) (hsS : sS = sendS (pe c r))
    (A B : Memref sig .tc .vmem S256x8 .f32) (i : Dev nD) (hB : B = slotM i)
    {hsrc : A.view.WordExact} {hdst : B.view.WordExact}
    {k : PUnit → Prog (TpuEff nD τ sig (Elt F) Λ₀ .tc) α} {Q : α → sProp 𝕄} {R : sProp 𝕄}
    (H : iprop(env m ρ K ∗ S4 m ρ c (r + 1) ∗ R) ⊢ wp frame (wpE (defs₀ (F := F)) 𝒱₀ (c : Thread nD τ) none) Set.univ (k ⟨⟩) Q) :
    iprop(env m ρ K ∗ S4 m ρ c r ∗ R) ⊢ wp frame (wpE (defs₀ (F := F)) 𝒱₀ (c : Thread nD τ) none) Set.univ
      (Prog.lift (.waitDma2 sS A B hsrc hdst) >>= k) Q := by
  subst hsS hB
  simp only [Prog.lift, Prog.bind_op, Prog.bind_ret]
  unfold S4 dues
  rw [bigSep_Ico_succ_bot h]
  iintro ⟨#He, ⟨⟨%W, HO⟩, ⟨⟨Hc, Hat⟩, Hrest⟩, Hdone⟩, HR⟩
  ihave #HI := (env_cell m ρ K (c, .inr (.inl (pe c r)))) $$ He
  icases HI with ⟨#HI1, #HI2⟩
  iapply (Rounds.wp_wait_rest_token 𝒱₀ ER (sched m ρ) (c : Thread nD τ) none (κ := K (c, .inr (.inl (pe c r))))
      (wpE_waitDma2_eq 𝒱₀ (c : Thread nD τ) none Set.univ) (Set.mem_univ _) () (O := 0) (W := W) (R := 0) (m := 0) (T := ∅)
      (by rw [Nat.zero_add, expect_send m ρ c _ (pe_ne c r h0 h)])) $$ [Hc HO Hat]
  · isplitr; · iexact HI1
    isplitl [Hc]; · iexact Hc
    isplitl [HO]; · iexact HO
    isplitr; · rw [MayWait_zero]; iempintro
    iexact Hat
  iintro ⟨HO, Hat, -, Hpay⟩
  ihave Hp := (Entails.of_eq (rest_send m ρ c _ (pe_ne c r h0 h))) $$ Hpay
  imod (Rounds.cell_close ER (sched m ρ) (Set.mem_univ (K (c, .inr (.inl (pe c r))))) (fun h => h) (R := 0 + 1)
    (duties_later m ρ (sendCell c (pe c r)))) $$ [Hat] with Hz
  · isplitr; · iexact HI1
    iexact Hat
  iapply H
  isplitr; · iexact He
  isplitr [HR]
  · unfold S4 dues
    rw [bigSep_Ico_succ_top h0]
    isplitl [HO]; · iexists (insert (SemLoc.dma (sendS (pe c r)), ()) W); iexact HO
    isplitl [Hrest]; · iexact Hrest
    isplitl [Hp Hz]
    · isplitl [Hp] <;> iassumption
    · iexact Hdone
  · iexact HR

end Cert.Exchange

end
-- ==== Proof.Parts.lean ====
/-
  The kernel's parts up to the last send wait, each from the state it starts in to the state it leaves, one rule per
  operation in program order.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD)

/-! ## The printed offsets, as slots and semaphores -/

/-- The send semaphore at the printed offset of the device `q + 1` places on. -/
theorem sendS_at (c : Dev nD) (q : Fin 15) (w : BitVec 32) (hw : w = BitVec.ofNat 32 (1 + q.val))
    (p : ∀ a, k0_off2 c w a + KernelIdeal.S1.size a ≤ S16.size a) :
    ((cc0_scratch1.slice (Rect.unit (s := S16) (k0_off2 c w) KernelIdeal.S1.size p)).squeeze S_ squeezes_S1_S_).sem = sendS (pe c (q.val + 1)) :=
  sendS_eq _ _ (by subst hw; exact k0_off2_eq c q) p
/-- The receive semaphore there. -/
theorem recvS_at (c : Dev nD) (q : Fin 15) (w : BitVec 32) (hw : w = BitVec.ofNat 32 (1 + q.val))
    (p : ∀ a, k0_off2 c w a + KernelIdeal.S1.size a ≤ S16.size a) :
    ((cc0_scratch2.slice (Rect.unit (s := S16) (k0_off2 c w) KernelIdeal.S1.size p)).squeeze S_ squeezes_S1_S_).sem = recvS (pe c (q.val + 1)) :=
  recvS_eq _ _ (by subst hw; exact k0_off2_eq c q) p
/-- The slot there. -/
theorem slotM_at (c : Dev nD) (q : Fin 15) (w : BitVec 32) (hw : w = BitVec.ofNat 32 (1 + q.val))
    (p : ∀ a, k0_off5 c w a + S1x256x8.size a ≤ S16x256x8.size a) :
    (rM.slice (Rect.unit (s := S16x256x8) (k0_off5 c w) S1x256x8.size p) (fun _ => rfl)).squeeze S256x8 squeezes_S1x256x8_S256x8
      = slotM (pe c (q.val + 1)) :=
  slotM_eq _ _ (by subst hw; exact k0_off5_eq c q) p
/-- The device's own slot. -/
theorem slotM_own (c : Dev nD) (p : ∀ a, k0_off4 c a + S1x256x8.size a ≤ S16x256x8.size a) :
    (rM.slice (Rect.unit (s := S16x256x8) (k0_off4 c) S1x256x8.size p) (fun _ => rfl)).squeeze S256x8 squeezes_S1x256x8_S256x8 = slotM c :=
  slotM_eq _ _ (k0_off4_eq c) p
/-- The receive semaphore a device's own copies complete on. -/
theorem recvS_own (c : Dev nD) (p : ∀ a, k0_off3 c a + KernelIdeal.S1.size a ≤ S16.size a) :
    ((cc0_scratch2.slice (Rect.unit (s := S16) (k0_off3 c) KernelIdeal.S1.size p)).squeeze S_ squeezes_S1_S_).sem = recvS c :=
  recvS_eq _ _ (k0_off3_eq c) p

/-! ## Steps that use no protocol state -/

/-- A part's return. -/
theorem step_ret {α : Type} {a : α} {Q : α → sProp 𝕄} {P : sProp 𝕄} (H : P ⊢ Q a) :
    P ⊢ wp frame (wpE (defs₀ (F := F)) 𝒱₀ (c : Thread nD τ) none) Set.univ (pure a) Q := by
  rw [wp_pure]; exact H.trans fupd_intro

/-- Reading the device's own number. -/
theorem step_device {α : Type} {k : Dev nD → Prog (TpuEff nD τ sig (Elt F) Λ₀ .tc) α} {Q : α → sProp 𝕄} {P : sProp 𝕄}
    (H : P ⊢ wp frame (wpE (defs₀ (F := F)) 𝒱₀ (c : Thread nD τ) none) Set.univ (k c) Q) :
    P ⊢ wp frame (wpE (defs₀ (F := F)) 𝒱₀ (c : Thread nD τ) none) Set.univ (Prog.lift .deviceId >>= k) Q := by
  simp only [Prog.lift, Prog.bind_op, Prog.bind_ret, wp_deviceId]
  exact H

/-- The `r`th copy, as printed. -/
theorem copy_at {α : Type} (n : Dev nD) (q : Fin 15) (w : BitVec 32) (hn : n.val = (c.val + (q.val + 1)) % 16)
    (hw : w = BitVec.ofNat 32 (1 + q.val)) {p₂ p₃ p₄}
    {hsc hsrc hdst hsem}
    {k : PUnit → Prog (TpuEff nD τ sig (Elt F) Λ₀ .tc) α} {Q : α → sProp 𝕄} {R : sProp 𝕄}
    (H : iprop(env m ρ K ∗ S2 m ρ c (q.val + 2) ∗ R) ⊢ wp frame (wpE (defs₀ (F := F)) 𝒱₀ (c : Thread nD τ) none) Set.univ (k ⟨⟩) Q) :
    iprop(env m ρ K ∗ S2 m ρ c (q.val + 1) ∗ R) ⊢ wp frame (wpE (defs₀ (F := F)) 𝒱₀ (c : Thread nD τ) none) Set.univ
      (Prog.lift (.enqueueDma
        ((rM.slice (Rect.unit (s := S16x256x8) (k0_off4 c) S1x256x8.size p₄) (fun _ => rfl)).squeeze S256x8 squeezes_S1x256x8_S256x8)
        (.remote (Dev.tc n : Thread nD τ)
          ((rM.slice (Rect.unit (s := S16x256x8) (k0_off4 c) S1x256x8.size p₄) (fun _ => rfl)).squeeze S256x8 squeezes_S1x256x8_S256x8)
          (.dma ((cc0_scratch1.slice (Rect.unit (s := S16) (k0_off2 c w) KernelIdeal.S1.size p₂)).squeeze S_ squeezes_S1_S_).sem) hsc)
        (.dma ((cc0_scratch2.slice (Rect.unit (s := S16) (k0_off3 c) KernelIdeal.S1.size p₃)).squeeze S_ squeezes_S1_S_).sem)
        hsrc hdst hsem) >>= k) Q :=
  step_send m ρ K c n (q.val + 1) (Fin.ext hn) (Nat.succ_pos _) (by have := q.isLt; omega) _ _ (sendS_at c q w hw _) (recvS_own c _) _ _
    (slotM_own c _) (slotM_own c _) H

/-- The `r`th receive wait, as printed. -/
theorem recv_at {α : Type} (q : Fin 15) (w : BitVec 32) (hw : w = BitVec.ofNat 32 (1 + q.val)) {A : Memref sig .tc .vmem S256x8 .f32}
    {p₂ p₅ hsrc hdst} {k : PUnit → Prog (TpuEff nD τ sig (Elt F) Λ₀ .tc) α} {Q : α → sProp 𝕄} {R : sProp 𝕄}
    (H : iprop(env m ρ K ∗ S3 m ρ c (q.val + 2) ∗ R) ⊢ wp frame (wpE (defs₀ (F := F)) 𝒱₀ (c : Thread nD τ) none) Set.univ (k ⟨⟩) Q) :
    iprop(env m ρ K ∗ S3 m ρ c (q.val + 1) ∗ R) ⊢ wp frame (wpE (defs₀ (F := F)) 𝒱₀ (c : Thread nD τ) none) Set.univ
      (Prog.lift (.waitDma2 ((cc0_scratch2.slice (Rect.unit (s := S16) (k0_off2 c w) KernelIdeal.S1.size p₂)).squeeze S_ squeezes_S1_S_).sem A
        ((rM.slice (Rect.unit (s := S16x256x8) (k0_off5 c w) S1x256x8.size p₅) (fun _ => rfl)).squeeze S256x8 squeezes_S1x256x8_S256x8)
        hsrc hdst) >>= k) Q :=
  step_recv m ρ K c (q.val + 1) (Nat.succ_pos _) (by have := q.isLt; omega) _ (recvS_at c q w hw _) _ _ _ (slotM_at c q w hw _) H

/-- The `r`th send wait, as printed. -/
theorem sent_at {α : Type} (q : Fin 15) (w : BitVec 32) (hw : w = BitVec.ofNat 32 (1 + q.val)) {A : Memref sig .tc .vmem S256x8 .f32}
    {p₂ p₄ hsrc hdst} {k : PUnit → Prog (TpuEff nD τ sig (Elt F) Λ₀ .tc) α} {Q : α → sProp 𝕄} {R : sProp 𝕄}
    (H : iprop(env m ρ K ∗ S4 m ρ c (q.val + 2) ∗ R) ⊢ wp frame (wpE (defs₀ (F := F)) 𝒱₀ (c : Thread nD τ) none) Set.univ (k ⟨⟩) Q) :
    iprop(env m ρ K ∗ S4 m ρ c (q.val + 1) ∗ R) ⊢ wp frame (wpE (defs₀ (F := F)) 𝒱₀ (c : Thread nD τ) none) Set.univ
      (Prog.lift (.waitDma2 ((cc0_scratch1.slice (Rect.unit (s := S16) (k0_off2 c w) KernelIdeal.S1.size p₂)).squeeze S_ squeezes_S1_S_).sem A
        ((rM.slice (Rect.unit (s := S16x256x8) (k0_off4 c) S1x256x8.size p₄) (fun _ => rfl)).squeeze S256x8 squeezes_S1x256x8_S256x8)
        hsrc hdst) >>= k) Q :=
  step_sent m ρ K c (q.val + 1) (Nat.succ_pos _) (by have := q.isLt; omega) _ (sendS_at c q w hw _) _ _ _ (slotM_own c _) H

/-! ## The parts -/

/-- Part 1: signals one to eight. -/
theorem part1 {Q : (Σ' (d0 : Dev nD) (v2 : BitVec 32), Sems sig S_) → sProp 𝕄} {R : sProp 𝕄}
    (H : iprop(env m ρ K ∗ S1 c 9 ∗ R) ⊢ Q ⟨c, Scalar.remsi (Scalar.divsi (Dev.word c) 1#32) 16#32, SemArray.scalar (sig.barrier 0 rfl)⟩) :
    iprop(env m ρ K ∗ S1 c 1 ∗ R) ⊢ wp frame (wpE (defs₀ (F := F)) 𝒱₀ (c : Thread nD τ) none) Set.univ
      (k0_part1 (F := F) xM (Memref.isWhole_whole _) oM (Memref.isWhole_whole _) rM (Memref.isWhole_whole _) cc0_scratch1 cc0_scratch2) Q := by
  rw [k0_part1_eq_skeleton]; unfold k0_part1_skel
  refine step_device c ?_
  refine step_signal m ρ K c _ 1 (Fin.ext (k0_dev1_eq c)) (by decide) (by decide) ?_
  refine step_signal m ρ K c _ 2 (Fin.ext (k0_dev2_eq c)) (by decide) (by decide) ?_
  refine step_signal m ρ K c _ 3 (Fin.ext (k0_dev3_eq c)) (by decide) (by decide) ?_
  refine step_signal m ρ K c _ 4 (Fin.ext (k0_dev4_eq c)) (by decide) (by decide) ?_
  refine step_signal m ρ K c _ 5 (Fin.ext (k0_dev5_eq c)) (by decide) (by decide) ?_
  refine step_signal m ρ K c _ 6 (Fin.ext (k0_dev6_eq c)) (by decide) (by decide) ?_
  refine step_signal m ρ K c _ 7 (Fin.ext (k0_dev7_eq c)) (by decide) (by decide) ?_
  refine step_signal m ρ K c _ 8 (Fin.ext (k0_dev8_eq c)) (by decide) (by decide) ?_
  exact step_ret c H

/-- Part 5: copies 1 to 4. -/
theorem part5 (v2 : BitVec 32) {Q : PUnit → sProp 𝕄} {R : sProp 𝕄}
    (H : iprop(env m ρ K ∗ S2 m ρ c 5 ∗ R) ⊢ Q ⟨⟩) :
    iprop(env m ρ K ∗ S2 m ρ c 1 ∗ R) ⊢ wp frame (wpE (defs₀ (F := F)) 𝒱₀ (c : Thread nD τ) none) Set.univ
      (k0_part5 (F := F) xM (Memref.isWhole_whole _) oM (Memref.isWhole_whole _) rM (Memref.isWhole_whole _) cc0_scratch1 cc0_scratch2 c v2) Q := by
  rw [k0_part5_eq_skeleton]; unfold k0_part5_skel
  refine copy_at m ρ K c _ 0 _ (k0_dev16_eq c) rfl ?_
  refine copy_at m ρ K c _ 1 _ (k0_dev17_eq c) rfl ?_
  refine copy_at m ρ K c _ 2 _ (k0_dev18_eq c) rfl ?_
  refine copy_at m ρ K c _ 3 _ (k0_dev19_eq c) rfl ?_
  exact step_ret c H

/-- Part 6: copies 5 to 7. -/
theorem part6 (v2 : BitVec 32) {Q : PUnit → sProp 𝕄} {R : sProp 𝕄}
    (H : iprop(env m ρ K ∗ S2 m ρ c 8 ∗ R) ⊢ Q ⟨⟩) :
    iprop(env m ρ K ∗ S2 m ρ c 5 ∗ R) ⊢ wp frame (wpE (defs₀ (F := F)) 𝒱₀ (c : Thread nD τ) none) Set.univ
      (k0_part6 (F := F) xM (Memref.isWhole_whole _) oM (Memref.isWhole_whole _) rM (Memref.isWhole_whole _) cc0_scratch1 cc0_scratch2 c v2) Q := by
  rw [k0_part6_eq_skeleton]; unfold k0_part6_skel
  refine copy_at m ρ K c _ 4 _ (k0_dev20_eq c) rfl ?_
  refine copy_at m ρ K c _ 5 _ (k0_dev21_eq c) rfl ?_
  refine copy_at m ρ K c _ 6 _ (k0_dev22_eq c) rfl ?_
  exact step_ret c H

/-- Part 7: copies 8 to 11. -/
theorem part7 (v2 : BitVec 32) {Q : PUnit → sProp 𝕄} {R : sProp 𝕄}
    (H : iprop(env m ρ K ∗ S2 m ρ c 12 ∗ R) ⊢ Q ⟨⟩) :
    iprop(env m ρ K ∗ S2 m ρ c 8 ∗ R) ⊢ wp frame (wpE (defs₀ (F := F)) 𝒱₀ (c : Thread nD τ) none) Set.univ
      (k0_part7 (F := F) xM (Memref.isWhole_whole _) oM (Memref.isWhole_whole _) rM (Memref.isWhole_whole _) cc0_scratch1 cc0_scratch2 c v2) Q := by
  rw [k0_part7_eq_skeleton]; unfold k0_part7_skel
  refine copy_at m ρ K c _ 7 _ (k0_dev23_eq c) rfl ?_
  refine copy_at m ρ K c _ 8 _ (k0_dev24_eq c) rfl ?_
  refine copy_at m ρ K c _ 9 _ (k0_dev25_eq c) rfl ?_
  refine copy_at m ρ K c _ 10 _ (k0_dev26_eq c) rfl ?_
  exact step_ret c H

/-- Part 8: copies 12 to 14. -/
theorem part8 (v2 : BitVec 32) {Q : PUnit → sProp 𝕄} {R : sProp 𝕄}
    (H : iprop(env m ρ K ∗ S2 m ρ c 15 ∗ R) ⊢ Q ⟨⟩) :
    iprop(env m ρ K ∗ S2 m ρ c 12 ∗ R) ⊢ wp frame (wpE (defs₀ (F := F)) 𝒱₀ (c : Thread nD τ) none) Set.univ
      (k0_part8 (F := F) xM (Memref.isWhole_whole _) oM (Memref.isWhole_whole _) rM (Memref.isWhole_whole _) cc0_scratch1 cc0_scratch2 c v2) Q := by
  rw [k0_part8_eq_skeleton]; unfold k0_part8_skel
  refine copy_at m ρ K c _ 11 _ (k0_dev27_eq c) rfl ?_
  refine copy_at m ρ K c _ 12 _ (k0_dev28_eq c) rfl ?_
  refine copy_at m ρ K c _ 13 _ (k0_dev29_eq c) rfl ?_
  exact step_ret c H

/-- Part 10: receive waits 4 to 7. -/
theorem part10 (v2 : BitVec 32) {Q : PUnit → sProp 𝕄} {R : sProp 𝕄}
    (H : iprop(env m ρ K ∗ S3 m ρ c 8 ∗ R) ⊢ Q ⟨⟩) :
    iprop(env m ρ K ∗ S3 m ρ c 4 ∗ R) ⊢ wp frame (wpE (defs₀ (F := F)) 𝒱₀ (c : Thread nD τ) none) Set.univ
      (k0_part10 (F := F) xM (Memref.isWhole_whole _) oM (Memref.isWhole_whole _) rM (Memref.isWhole_whole _) cc0_scratch1 cc0_scratch2 c v2) Q := by
  rw [k0_part10_eq_skeleton]; unfold k0_part10_skel
  refine recv_at m ρ K c 3 _ rfl ?_
  refine recv_at m ρ K c 4 _ rfl ?_
  refine recv_at m ρ K c 5 _ rfl ?_
  refine recv_at m ρ K c 6 _ rfl ?_
  exact step_ret c H

/-- Part 11: receive waits 8 to 11. -/
theorem part11 (v2 : BitVec 32) {Q : PUnit → sProp 𝕄} {R : sProp 𝕄}
    (H : iprop(env m ρ K ∗ S3 m ρ c 12 ∗ R) ⊢ Q ⟨⟩) :
    iprop(env m ρ K ∗ S3 m ρ c 8 ∗ R) ⊢ wp frame (wpE (defs₀ (F := F)) 𝒱₀ (c : Thread nD τ) none) Set.univ
      (k0_part11 (F := F) xM (Memref.isWhole_whole _) oM (Memref.isWhole_whole _) rM (Memref.isWhole_whole _) cc0_scratch1 cc0_scratch2 c v2) Q := by
  rw [k0_part11_eq_skeleton]; unfold k0_part11_skel
  refine recv_at m ρ K c 7 _ rfl ?_
  refine recv_at m ρ K c 8 _ rfl ?_
  refine recv_at m ρ K c 9 _ rfl ?_
  refine recv_at m ρ K c 10 _ rfl ?_
  exact step_ret c H

/-- Part 13: send waits 2 to 6. -/
theorem part13 {Q : PUnit → sProp 𝕄} {R : sProp 𝕄}
    (H : iprop(env m ρ K ∗ S4 m ρ c 7 ∗ R) ⊢ Q ⟨⟩) :
    iprop(env m ρ K ∗ S4 m ρ c 2 ∗ R) ⊢ wp frame (wpE (defs₀ (F := F)) 𝒱₀ (c : Thread nD τ) none) Set.univ
      (k0_part13 (F := F) xM (Memref.isWhole_whole _) oM (Memref.isWhole_whole _) rM (Memref.isWhole_whole _) cc0_scratch1 cc0_scratch2 c) Q := by
  rw [k0_part13_eq_skeleton]; unfold k0_part13_skel
  refine sent_at m ρ K c 1 _ rfl ?_
  refine sent_at m ρ K c 2 _ rfl ?_
  refine sent_at m ρ K c 3 _ rfl ?_
  refine sent_at m ρ K c 4 _ rfl ?_
  refine sent_at m ρ K c 5 _ rfl ?_
  exact step_ret c H

/-- Part 14: send waits 7 to 11. -/
theorem part14 {Q : PUnit → sProp 𝕄} {R : sProp 𝕄}
    (H : iprop(env m ρ K ∗ S4 m ρ c 12 ∗ R) ⊢ Q ⟨⟩) :
    iprop(env m ρ K ∗ S4 m ρ c 7 ∗ R) ⊢ wp frame (wpE (defs₀ (F := F)) 𝒱₀ (c : Thread nD τ) none) Set.univ
      (k0_part14 (F := F) xM (Memref.isWhole_whole _) oM (Memref.isWhole_whole _) rM (Memref.isWhole_whole _) cc0_scratch1 cc0_scratch2 c) Q := by
  rw [k0_part14_eq_skeleton]; unfold k0_part14_skel
  refine sent_at m ρ K c 6 _ rfl ?_
  refine sent_at m ρ K c 7 _ rfl ?_
  refine sent_at m ρ K c 8 _ rfl ?_
  refine sent_at m ρ K c 9 _ rfl ?_
  refine sent_at m ρ K c 10 _ rfl ?_
  exact step_ret c H

end Cert.Exchange

end
-- ==== Proof.Body.lean ====
/-
  The kernel's body on a device, from what the launch deals it to what it leaves: the parts that change the state, joined
  with the others.
-/
module

public import proofs.«01_k».proof.Proof.Parts

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD)

/-! ## What is stored -/

/-- What device `i` computes of its block. -/
abbrev top (i : Dev nD) : FVec F S1x256x8 .f32 := localTop (xstg m ρ i)

/-- A payload of the last phase applied to the sixteen slots. -/
abbrev onSlots {β : Type} (y : Dev nD → FVec F S1x256x8 .f32)
    (g : FVec F S256x8 .f32 → FVec F S256x8 .f32 → FVec F S256x8 .f32 → FVec F S256x8 .f32 → FVec F S256x8 .f32 → FVec F S256x8 .f32
      → FVec F S256x8 .f32 → FVec F S256x8 .f32 → FVec F S256x8 .f32 → FVec F S256x8 .f32 → FVec F S256x8 .f32 → FVec F S256x8 .f32
      → FVec F S256x8 .f32 → FVec F S256x8 .f32 → Vec F S1x256x8 .f32 → Vec F S1x256x8 .f32 → β) : β :=
  g (k0_pay16 (y 0)) (k0_pay17 (y 1)) (k0_pay18 (y 2)) (k0_pay19 (y 3)) (k0_pay20 (y 4)) (k0_pay21 (y 5)) (k0_pay22 (y 6)) (k0_pay23 (y 7))
    (k0_pay24 (y 8)) (k0_pay25 (y 9)) (k0_pay26 (y 10)) (k0_pay27 (y 11)) (k0_pay28 (y 12)) (k0_pay29 (y 13)) (y 14) (y 15)

/-- What the last phase computes of the slots: the eight largest of each row of them all, in the kernel's operations. -/
def finalTop (y : Dev nD → FVec F S1x256x8 .f32) : FVec F S256x8 .f32 :=
  k0_pay1 (onSlots y k0_pay31) (onSlots y k0_pay33) (onSlots y k0_pay35) (k0_pay38 (onSlots y k0_pay37))
    (k0_pay40 (iota .tc S256x128 32 [1] iota_S256x128_d1_w32) (onSlots y k0_pay36) (onSlots y k0_pay37))
    (k0_pay42 (iota .tc S256x128 32 [1] iota_S256x128_d1_w32) (onSlots y k0_pay36) (onSlots y k0_pay37))
    (k0_pay43 (iota .tc S256x128 32 [1] iota_S256x128_d1_w32) (onSlots y k0_pay36) (onSlots y k0_pay37))
    (k0_pay44 (iota .tc S256x128 32 [1] iota_S256x128_d1_w32) (onSlots y k0_pay36) (onSlots y k0_pay37))
    (k0_pay45 (iota .tc S256x128 32 [1] iota_S256x128_d1_w32) (onSlots y k0_pay36) (onSlots y k0_pay37))
    (Scalar.ofBits .f32 0xFF800000#32)

/-- What every device stores in its result. -/
def outAt : (cc0_stg1_0 : Ref sig .tc).ty.Contents (Elt F) := finalTop (top m ρ)

/-! ## What a device holds on the way -/

/-- The staged block. -/
abbrev xPts (c : Dev nD) : sProp 𝕄 := ((c : Thread nD τ).loc cc0_stg0_0) ↦{fullShare} (xstg m ρ c)
/-- The scratch, gathered. -/
abbrev scrPts (c : Dev nD) : sProp 𝕄 := ((c : Thread nD τ).loc cc0_scratch0) ↦{fullShare} (gath m ρ)
/-- The duties of the copies a device makes. -/
def toks (c : Dev nD) : sProp 𝕄 :=
  bigSep (Finset.Ico 1 16) fun r => iprop(dutyTok ER (sendCell c (pe c r)) 0 (pe c r) ∗ dutyTok ER (recvCell (pe c r) c) 0 c)
/-- What it needs for its receive waits. -/
def rcv (c : Dev nD) : sProp 𝕄 :=
  bigSep (Finset.Ico 1 16) fun r => iprop(cred (tallyAt (recvCell c (pe c r)) () N) ∗ atPos ER (recvCell c (pe c r)) 0 ∅ 0)
/-- Its positions at its send cells. -/
def snd (c : Dev nD) : sProp 𝕄 := bigSep (Finset.Ico 1 16) fun r => (atPos ER (sendCell c (pe c r)) 0 ∅ 0 : sProp 𝕄)
/-- The credits of its send cells. -/
def crd (c : Dev nD) : sProp 𝕄 := bigSep (Finset.Ico 1 16) fun r => (cred (tallyAt (sendCell c (pe c r)) () N) : sProp 𝕄)
/-- The shares of its own slot that no copy reads. -/
def keep (c : Dev nD) : sProp 𝕄 :=
  iprop(slotPts c c (Idealize.ShloMosaic.Transfers.shareDrop fullShare 16) (gath m ρ) ∗ slotPts c c (tokShare c) (gath m ρ))
/-- What the receive waits bring. -/
def got (c : Dev nD) : sProp 𝕄 :=
  bigSep (Finset.Ico 1 16) fun r => iprop(slotPts c (pe c r) fullShare (gath m ρ) ∗ semVal (recvCell c (pe c r)) 0)
/-- What the send waits bring. -/
def sent (c : Dev nD) : sProp 𝕄 :=
  bigSep (Finset.Ico 1 16) fun r => iprop(slotPts c c (tokShare (pe c r)) (gath m ρ) ∗ semVal (sendCell c (pe c r)) 0)

/-! ## From one phase to the next -/

/-- The own slot, whole, is the share kept and one share for each device. -/
theorem own_split : slotPts c c fullShare (gath m ρ)
    = (iprop(keep m ρ c ∗ bigSep (Finset.Ico 1 16) fun r => slotPts c c (tokShare (pe c r)) (gath m ρ)) : sProp 𝕄) := by
  unfold keep
  rw [bigSep_pe c (fun t => slotPts c c (tokShare t) (gath m ρ))]
  have h1 : (slotPts c c fullShare (gath m ρ) : sProp 𝕄)
      = iprop(slotPts c c (Idealize.ShloMosaic.Transfers.shareDrop fullShare 16) (gath m ρ)
        ∗ bigSep Finset.univ fun t : Dev nD => slotPts c c (tokShare t) (gath m ρ)) := by
    unfold slotPts
    exact equiv_iff.mp ⟨Idealize.ShloMosaic.Transfers.pointsTo_toks_split fullShare 16, Idealize.ShloMosaic.Transfers.pointsTo_toks_join fullShare 16⟩
  rw [h1, bigSep_erase (Finset.mem_univ c)]
  exact (equiv_iff.mp ⟨Idealize.SL.BI.sep_assoc, Idealize.SL.BI.sep_assoc'⟩).symm

/-- After the barrier and the local store: ready for the copies. -/
theorem to_copies : iprop(dues c (owedRecv c 1) ∗ (bigSep (Finset.Ico 1 16) fun r => iprop(∃ f, slotPts (pe c r) c fullShare f))
      ∗ slotPts c c fullShare (gath m ρ) ∗ toks c)
    ⊢ (iprop(S2 m ρ c 1 ∗ keep m ρ c) : sProp 𝕄) := by
  unfold S2 toks
  rw [own_split, bigSep_sep', bigSep_sep', bigSep_sep', bigSep_sep', Finset.Ico_self, bigSep_empty]
  iintro ⟨Hd, Hp, ⟨Hk, Hs⟩, Ht1, Ht2⟩
  isplitr [Hk]
  · isplitl [Hd]; · iexact Hd
    isplitl;
    · isplitl [Hs]; · iexact Hs
      isplitl [Hp]; · iexact Hp
      isplitl [Ht1] <;> iassumption
    · iempintro
  · iexact Hk

/-- After the copies: ready for the receive waits. -/
theorem to_recvs : iprop(S2 m ρ c 16 ∗ rcv c) ⊢ (iprop(S3 m ρ c 1 ∗ crd c) : sProp 𝕄) := by
  unfold S2 S3 rcv crd
  rw [owedRecv_end, Finset.Ico_self, bigSep_empty, Finset.Ico_self, bigSep_empty]
  iintro ⟨⟨Hd, -, Hc⟩, Hr⟩
  isplitr [Hc]
  · isplitl [Hd]; · iexact Hd
    isplitl [Hr]; · iexact Hr
    iempintro
  · iexact Hc

/-- After the receive waits: ready for the send waits. -/
theorem to_sends : iprop(S3 m ρ c 16 ∗ crd c ∗ snd c) ⊢ (iprop(S4 m ρ c 1 ∗ got m ρ c) : sProp 𝕄) := by
  unfold S3 S4 crd snd got
  rw [Finset.Ico_self, bigSep_empty, Finset.Ico_self, bigSep_empty, bigSep_sep' (Finset.Ico 1 16) (fun r => (cred (tallyAt (sendCell c (pe c r)) () N) : sProp 𝕄))]
  iintro ⟨⟨Hd, -, Hg⟩, Hc, Ha⟩
  isplitr [Hg]
  · isplitl [Hd]; · iexact Hd
    isplitl
    · isplitl [Hc] <;> iassumption
    · iempintro
  · iexact Hg

/-- What the body leaves of the semaphores, before its cells for itself close. -/
def sems (c : Dev nD) : sProp 𝕄 :=
  iprop((bigSep (Finset.Ico 1 16) fun r => semVal (recvCell c (pe c r)) 0) ∗ bigSep (Finset.Ico 1 16) fun r => semVal (sendCell c (pe c r)) 0)

/-- After the send waits: the scratch is whole again, and gathered. -/
theorem to_loads : iprop(S4 m ρ c 16 ∗ got m ρ c ∗ keep m ρ c) ⊢ (iprop(scrPts m ρ c ∗ dues c 0 ∗ sems c) : sProp 𝕄) := by
  have hs : (scrPts m ρ c : sProp 𝕄)
      = iprop((keep m ρ c ∗ bigSep (Finset.Ico 1 16) fun r => slotPts c c (tokShare (pe c r)) (gath m ρ))
        ∗ bigSep (Finset.Ico 1 16) fun r => slotPts c (pe c r) fullShare (gath m ρ)) := by
    rw [← own_split, bigSep_pe c (fun t => slotPts c t fullShare (gath m ρ))]
    exact (slots_eq c fullShare (gath m ρ)).trans (bigSep_erase (Finset.mem_univ c))
  rw [hs]
  unfold S4 got sems
  rw [Finset.Ico_self, bigSep_empty, bigSep_sep', bigSep_sep']
  iintro ⟨⟨Hd, -, Ht, Hzs⟩, ⟨Hg, Hzr⟩, Hk⟩
  isplitr [Hd Hzs Hzr]
  · isplitr [Hg]
    · isplitl [Hk] <;> iassumption
    · iexact Hg
  · isplitl [Hd]; · iexact Hd
    isplitl [Hzr] <;> iassumption

/-! ## Loads and stores -/

theorem hz : (![0, 0] : Fin 2 → Nat) = fun _ => 0 := funext fun a => by fin_cases a <;> rfl

/-- The load of the staged block. -/
theorem load_x {α : Type} {p hl} {k : Vec F S256x1024 .f32 → Prog (TpuEff nD τ sig (Elt F) Λ₀ .tc) α} {Q : α → sProp 𝕄} {P : sProp 𝕄}
    (H : iprop(xPts m ρ c ∗ P) ⊢ wp frame (wpE (defs₀ (F := F)) 𝒱₀ (c : Thread nD τ) none) Set.univ (k (xstg m ρ c)) Q) :
    iprop(xPts m ρ c ∗ P) ⊢ wp frame (wpE (defs₀ (F := F)) 𝒱₀ (c : Thread nD τ) none) Set.univ
      (Prog.lift (.load xM (Rect.unit (s := S256x1024) ![0, 0] S256x1024.size p).toLoadRect hl) >>= k) Q := by
  simp only [Prog.lift, Prog.bind_op, Prog.bind_ret]
  iintro ⟨Hx, HP⟩
  iapply (wp_load 𝒱₀ (c : Thread nD τ) none Set.univ (m := xM) (Finset.subset_univ _)) $$ Hx; iintro Hx
  have hr : (xM : Memref sig .tc .vmem S256x1024 .f32).view.readAt (Elt F) (Rect.unit (s := S256x1024) ![0, 0] S256x1024.size p).toLoadRect (xstg m ρ c) = xstg m ρ c :=
    Memref.readAt_unit_zero (Elt F) cc0_stg0_0 hz _ _
  rw [hr]
  iapply H
  isplitl [Hx] <;> iassumption

/-- Slot `i` of the gathered array is what device `i` computed. -/
theorem read_slot (i : Dev nD) (off : Fin 3 → ℕ) (h : off = slotOff i) (p : ∀ a, off a + S1x256x8.size a ≤ S16x256x8.size a) :
    (rM : Memref sig .tc .vmem S16x256x8 .f32).view.readAt (Elt F) (Rect.unit (s := S16x256x8) off S1x256x8.size p).toLoadRect (gath m ρ) = top m ρ i := by
  subst h
  funext j
  show localTop (xstg m ρ (((slotR i).emb j) 0)) (inSlot ((slotR i).emb j)) = localTop (xstg m ρ i) j
  have h0 : ((slotR i).emb j) 0 = i := Fin.ext (by
    have : (j 0).val < 1 := (j 0).isLt
    show i.val + 1 * (j 0).val = i.val
    omega)
  have hj : inSlot ((slotR i).emb j) = j := by
    funext a
    match a with
    | ⟨0, _⟩ => exact Fin.ext (by have : (j 0).val < 1 := (j 0).isLt; show 0 = (j 0).val; omega)
    | ⟨1, _⟩ => exact Fin.ext (by show 0 + 1 * (j 1).val = (j 1).val; omega)
    | ⟨2, _⟩ => exact Fin.ext (by show 0 + 1 * (j 2).val = (j 2).val; omega)
  rw [h0, hj]

/-- The load of slot `i` of the gathered scratch. -/
theorem load_slot {α : Type} (i : Dev nD) {off : Fin 3 → ℕ} (h : off = slotOff i) {p hl}
    {k : Vec F S1x256x8 .f32 → Prog (TpuEff nD τ sig (Elt F) Λ₀ .tc) α} {Q : α → sProp 𝕄} {P : sProp 𝕄}
    (H : iprop(scrPts m ρ c ∗ P) ⊢ wp frame (wpE (defs₀ (F := F)) 𝒱₀ (c : Thread nD τ) none) Set.univ (k (top m ρ i)) Q) :
    iprop(scrPts m ρ c ∗ P) ⊢ wp frame (wpE (defs₀ (F := F)) 𝒱₀ (c : Thread nD τ) none) Set.univ
      (Prog.lift (.load rM (Rect.unit (s := S16x256x8) off S1x256x8.size p).toLoadRect hl) >>= k) Q := by
  simp only [Prog.lift, Prog.bind_op, Prog.bind_ret]
  iintro ⟨Hx, HP⟩
  iapply (wp_load 𝒱₀ (c : Thread nD τ) none Set.univ (m := rM) (Finset.subset_univ _)) $$ Hx; iintro Hx
  rw [read_slot m ρ i off h p]
  iapply H
  isplitl [Hx] <;> iassumption

/-- The load of the own slot, whose value is not used, and the store of what the device computed. -/
theorem write_own {α : Type} {off : Fin 3 → ℕ} (h : off = slotOff c) {p hl hs hm}
    {k : PUnit → Prog (TpuEff nD τ sig (Elt F) Λ₀ .tc) α} {Q : α → sProp 𝕄} {P : sProp 𝕄}
    (H : iprop(slotPts c c fullShare (gath m ρ) ∗ P) ⊢ wp frame (wpE (defs₀ (F := F)) 𝒱₀ (c : Thread nD τ) none) Set.univ (k ⟨⟩) Q) :
    iprop((∃ f, slotPts c c fullShare f) ∗ P) ⊢ wp frame (wpE (defs₀ (F := F)) 𝒱₀ (c : Thread nD τ) none) Set.univ
      (Prog.lift (.load rM (Rect.unit (s := S16x256x8) off S1x256x8.size p).toLoadRect hl) >>= fun _ =>
        Prog.lift (.store rM (Rect.unit (s := S16x256x8) off S1x256x8.size p) (top m ρ c) Finset.univ hs hm) >>= k) Q := by
  subst h
  simp only [Prog.lift, Prog.bind_op, Prog.bind_ret]
  iintro ⟨⟨%f, Hs⟩, HP⟩
  unfold slotPts
  iapply (wp_load_rect 𝒱₀ (c : Thread nD τ) none Set.univ (m := rM) (r := slotR c) (S := (slotR c).set) (stored_set c).le) $$ Hs; iintro Hs
  iapply (wp_store 𝒱₀ (c : Thread nD τ) none Set.univ (m := rM) (r := slotR c) (Mk := Finset.univ) (S := (slotR c).set)
    ((View.setOn_univ _).trans (stored_set c)).le) $$ Hs; iintro Hs
  ihave Hs := (Entails.of_eq (slotPts_congr c c fullShare (stored_eq m ρ c f))) $$ [Hs]
  · unfold slotPts; iexact Hs
  iapply H
  isplitl [Hs] <;> iassumption

/-! ## Regrouping -/

section Regroup
omit [FloatOps F]

theorem third {A B C R : sProp 𝕄} : iprop(A ∗ B ∗ C ∗ R) ⊢ iprop(C ∗ A ∗ B ∗ R) := by
  iintro ⟨HA, HB, HC, HR⟩
  isplitl [HC]; · iexact HC
  isplitl [HA]; · iexact HA
  isplitl [HB] <;> iassumption
theorem second {A B R : sProp 𝕄} : iprop(A ∗ B ∗ R) ⊢ iprop(B ∗ A ∗ R) := by
  iintro ⟨HA, HB, HR⟩
  isplitl [HB]; · iexact HB
  isplitl [HA] <;> iassumption
theorem mid3 {A B C D E R : sProp 𝕄} (h : iprop(B ∗ C) ⊢ iprop(D ∗ E)) : iprop(A ∗ B ∗ C ∗ R) ⊢ iprop(A ∗ D ∗ E ∗ R) := by
  iintro ⟨HA, HB, HC, HR⟩
  isplitl [HA]; · iexact HA
  ihave H := h $$ [HB HC]
  · isplitl [HB] <;> iassumption
  icases H with ⟨HD, HE⟩
  isplitl [HD]; · iexact HD
  isplitl [HE] <;> iassumption
theorem mid4 {A B C C' D E R : sProp 𝕄} (h : iprop(B ∗ C ∗ C') ⊢ iprop(D ∗ E)) : iprop(A ∗ B ∗ C ∗ C' ∗ R) ⊢ iprop(A ∗ D ∗ E ∗ R) := by
  iintro ⟨HA, HB, HC, HC', HR⟩
  isplitl [HA]; · iexact HA
  ihave H := h $$ [HB HC HC']
  · isplitl [HB]; · iexact HB
    isplitl [HC] <;> iassumption
  icases H with ⟨HD, HE⟩
  isplitl [HD]; · iexact HD
  isplitl [HE] <;> iassumption

end Regroup

/-- A step taken from what the state gives. -/
theorem step_from {α : Type} {p : Prog (TpuEff nD τ sig (Elt F) Λ₀ .tc) α} {Q : α → sProp 𝕄} {P P' : sProp 𝕄} (h : P ⊢ P')
    (H : P' ⊢ wp frame (wpE (defs₀ (F := F)) 𝒱₀ (c : Thread nD τ) none) Set.univ p Q) :
    P ⊢ wp frame (wpE (defs₀ (F := F)) 𝒱₀ (c : Thread nD τ) none) Set.univ p Q := h.trans H

/-! ## The parts -/

/-- Part 2: signals nine to fifteen, the barrier wait, the load of the block. -/
theorem part2 (v2 : BitVec 32) {Q : (Σ' (v35 : FVec F S256x1024 .f32) (v36 : IVec S256x1024 32) (v38 : FVec F S256x1 .f32) (v46 : IVec S256x1024 1), FVec F S256x1024 .f32) → sProp 𝕄} {R : sProp 𝕄}
    (H : iprop(xPts m ρ c ∗ env m ρ K ∗ (dues c (owedRecv c 1) ∗ semVal (barCell c) 0 ∗ bigSep (Finset.Ico 1 16) (fun r => iprop(∃ f, slotPts (pe c r) c fullShare f))) ∗ R) ⊢ Q ⟨k0_pay2 (xstg m ρ c), iota .tc S256x1024 32 [1] iota_S256x1024_d1_w32, k0_pay3 (xstg m ρ c), k0_pay4 (xstg m ρ c), k0_pay5⟩) :
    iprop(env m ρ K ∗ S1 c 9 ∗ (cred (tallyAt (barCell c) () 15) ∗ atPos ER (barCell c) 0 ∅ 0) ∗ xPts m ρ c ∗ R) ⊢ wp frame (wpE (defs₀ (F := F)) 𝒱₀ (c : Thread nD τ) none) Set.univ
      (k0_part2 (F := F) xM (Memref.isWhole_whole _) oM (Memref.isWhole_whole _) rM (Memref.isWhole_whole _) cc0_scratch1 cc0_scratch2 c v2 (SemArray.scalar (sig.barrier 0 rfl))) Q := by
  rw [k0_part2_eq_skeleton]; unfold k0_part2_skel
  refine step_signal m ρ K c _ 9 (Fin.ext (k0_dev9_eq c)) (by decide) (by decide) ?_
  refine step_signal m ρ K c _ 10 (Fin.ext (k0_dev10_eq c)) (by decide) (by decide) ?_
  refine step_signal m ρ K c _ 11 (Fin.ext (k0_dev11_eq c)) (by decide) (by decide) ?_
  refine step_signal m ρ K c _ 12 (Fin.ext (k0_dev12_eq c)) (by decide) (by decide) ?_
  refine step_signal m ρ K c _ 13 (Fin.ext (k0_dev13_eq c)) (by decide) (by decide) ?_
  refine step_signal m ρ K c _ 14 (Fin.ext (k0_dev14_eq c)) (by decide) (by decide) ?_
  refine step_signal m ρ K c _ 15 (Fin.ext (k0_dev15_eq c)) (by decide) (by decide) ?_
  refine step_barrier m ρ K c ?_
  refine step_from c third ?_
  refine load_x m ρ c ?_
  exact step_ret c H

/-- Part 4: the device's own slot is written with what it computed. -/
theorem part4 (v2 : BitVec 32) (v36 : IVec S256x1024 32) (v38 v50 v62 v74 : FVec F S256x1 .f32) (v84 : FVec F S256x1024 .f32) (v86 : FVec F S256x1 .f32)
    (v92 : IVec S256x1 32) (hv : k0_pay15 v36 v38 v50 v62 v74 v84 v86 v92 = top m ρ c) {Q : PUnit → sProp 𝕄} {R : sProp 𝕄}
    (H : iprop(slotPts c c fullShare (gath m ρ) ∗ R) ⊢ Q ⟨⟩) :
    iprop((∃ f, slotPts c c fullShare f) ∗ R) ⊢ wp frame (wpE (defs₀ (F := F)) 𝒱₀ (c : Thread nD τ) none) Set.univ
      (k0_part4 (F := F) xM (Memref.isWhole_whole _) oM (Memref.isWhole_whole _) rM (Memref.isWhole_whole _) cc0_scratch1 cc0_scratch2 c v2 v36 v38 v50 v62 v74 v84 v86 v92) Q := by
  rw [k0_part4_eq_skeleton]; unfold k0_part4_skel
  rw [hv]
  exact write_own m ρ c (k0_off1_eq c) (step_ret c H)

/-- Part 9: the last copy, receive waits one to three. -/
theorem part9 (v2 : BitVec 32) {Q : PUnit → sProp 𝕄} {R : sProp 𝕄}
    (H : iprop(env m ρ K ∗ S3 m ρ c 4 ∗ crd c ∗ R) ⊢ Q ⟨⟩) :
    iprop(env m ρ K ∗ S2 m ρ c 15 ∗ rcv c ∗ R) ⊢ wp frame (wpE (defs₀ (F := F)) 𝒱₀ (c : Thread nD τ) none) Set.univ
      (k0_part9 (F := F) xM (Memref.isWhole_whole _) oM (Memref.isWhole_whole _) rM (Memref.isWhole_whole _) cc0_scratch1 cc0_scratch2 c v2) Q := by
  rw [k0_part9_eq_skeleton]; unfold k0_part9_skel
  refine copy_at m ρ K c _ 14 _ (k0_dev30_eq c) rfl ?_
  refine step_from c (mid3 (to_recvs m ρ c)) ?_
  refine recv_at m ρ K c 0 _ rfl ?_
  refine recv_at m ρ K c 1 _ rfl ?_
  refine recv_at m ρ K c 2 _ rfl ?_
  exact step_ret c H

/-- Part 12: receive waits twelve to fifteen, the first send wait. -/
theorem part12 (v2 : BitVec 32) {Q : PUnit → sProp 𝕄} {R : sProp 𝕄}
    (H : iprop(env m ρ K ∗ S4 m ρ c 2 ∗ got m ρ c ∗ R) ⊢ Q ⟨⟩) :
    iprop(env m ρ K ∗ S3 m ρ c 12 ∗ crd c ∗ snd c ∗ R) ⊢ wp frame (wpE (defs₀ (F := F)) 𝒱₀ (c : Thread nD τ) none) Set.univ
      (k0_part12 (F := F) xM (Memref.isWhole_whole _) oM (Memref.isWhole_whole _) rM (Memref.isWhole_whole _) cc0_scratch1 cc0_scratch2 c v2) Q := by
  rw [k0_part12_eq_skeleton]; unfold k0_part12_skel
  refine recv_at m ρ K c 11 _ rfl ?_
  refine recv_at m ρ K c 12 _ rfl ?_
  refine recv_at m ρ K c 13 _ rfl ?_
  refine recv_at m ρ K c 14 _ rfl ?_
  refine step_from c (mid4 (to_sends m ρ c)) ?_
  refine sent_at m ρ K c 0 _ rfl ?_
  exact step_ret c H

/-- Part 15: send waits twelve to fifteen, the loads of slots 0 and 1. -/
theorem part15 {Q : (Σ' (v489 : FVec F S256x8 .f32), FVec F S256x8 .f32) → sProp 𝕄} {R : sProp 𝕄}
    (H : iprop(scrPts m ρ c ∗ env m ρ K ∗ (dues c 0 ∗ sems c) ∗ R) ⊢ Q ⟨k0_pay16 (top m ρ 0), k0_pay17 (top m ρ 1)⟩) :
    iprop(env m ρ K ∗ S4 m ρ c 12 ∗ got m ρ c ∗ keep m ρ c ∗ R) ⊢ wp frame (wpE (defs₀ (F := F)) 𝒱₀ (c : Thread nD τ) none) Set.univ
      (k0_part15 (F := F) xM (Memref.isWhole_whole _) oM (Memref.isWhole_whole _) rM (Memref.isWhole_whole _) cc0_scratch1 cc0_scratch2 c) Q := by
  rw [k0_part15_eq_skeleton]; unfold k0_part15_skel
  refine sent_at m ρ K c 11 _ rfl ?_
  refine sent_at m ρ K c 12 _ rfl ?_
  refine sent_at m ρ K c 13 _ rfl ?_
  refine sent_at m ρ K c 14 _ rfl ?_
  refine step_from c (mid4 (to_loads m ρ c)) ?_
  refine step_from c second ?_
  refine load_slot m ρ c 0 rfl ?_
  refine load_slot m ρ c 1 rfl ?_
  exact step_ret c H

/-- Part 16: the loads of slots 2 to 13. -/
theorem part16 {Q : (Σ' (v493 : FVec F S256x8 .f32) (v495 : FVec F S256x8 .f32) (v497 : FVec F S256x8 .f32) (v499 : FVec F S256x8 .f32) (v501 : FVec F S256x8 .f32) (v503 : FVec F S256x8 .f32) (v505 : FVec F S256x8 .f32) (v507 : FVec F S256x8 .f32) (v509 : FVec F S256x8 .f32) (v511 : FVec F S256x8 .f32) (v513 : FVec F S256x8 .f32), FVec F S256x8 .f32) → sProp 𝕄} {R : sProp 𝕄}
    (H : iprop(scrPts m ρ c ∗ R) ⊢ Q ⟨k0_pay18 (top m ρ 2), k0_pay19 (top m ρ 3), k0_pay20 (top m ρ 4), k0_pay21 (top m ρ 5), k0_pay22 (top m ρ 6), k0_pay23 (top m ρ 7), k0_pay24 (top m ρ 8), k0_pay25 (top m ρ 9), k0_pay26 (top m ρ 10), k0_pay27 (top m ρ 11), k0_pay28 (top m ρ 12), k0_pay29 (top m ρ 13)⟩) :
    iprop(scrPts m ρ c ∗ R) ⊢ wp frame (wpE (defs₀ (F := F)) 𝒱₀ (c : Thread nD τ) none) Set.univ
      (k0_part16 (F := F) xM (Memref.isWhole_whole _) oM (Memref.isWhole_whole _) rM (Memref.isWhole_whole _) cc0_scratch1 cc0_scratch2) Q := by
  rw [k0_part16_eq_skeleton]; unfold k0_part16_skel
  refine load_slot m ρ c 2 rfl ?_
  refine load_slot m ρ c 3 rfl ?_
  refine load_slot m ρ c 4 rfl ?_
  refine load_slot m ρ c 5 rfl ?_
  refine load_slot m ρ c 6 rfl ?_
  refine load_slot m ρ c 7 rfl ?_
  refine load_slot m ρ c 8 rfl ?_
  refine load_slot m ρ c 9 rfl ?_
  refine load_slot m ρ c 10 rfl ?_
  refine load_slot m ρ c 11 rfl ?_
  refine load_slot m ρ c 12 rfl ?_
  refine load_slot m ρ c 13 rfl ?_
  exact step_ret c H

/-- Part 17: the loads of slots 14 and 15, and the first rounds of the last phase. -/
theorem part17 (v489 v491 v493 v495 v497 v499 v501 v503 v505 v507 v509 v511 v513 v515 : FVec F S256x8 .f32) {Q : (Σ' (v521 : IVec S256x128 32) (v523 : FVec F S256x1 .f32) (v535 : FVec F S256x1 .f32) (v547 : FVec F S256x1 .f32) (v557 : FVec F S256x128 .f32), FVec F S256 .f32) → sProp 𝕄} {R : sProp 𝕄}
    (H : iprop(scrPts m ρ c ∗ R) ⊢ Q ⟨iota .tc S256x128 32 [1] iota_S256x128_d1_w32, k0_pay31 v489 v491 v493 v495 v497 v499 v501 v503 v505 v507 v509 v511 v513 v515 (top m ρ 14) (top m ρ 15), k0_pay33 v489 v491 v493 v495 v497 v499 v501 v503 v505 v507 v509 v511 v513 v515 (top m ρ 14) (top m ρ 15), k0_pay35 v489 v491 v493 v495 v497 v499 v501 v503 v505 v507 v509 v511 v513 v515 (top m ρ 14) (top m ρ 15), k0_pay36 v489 v491 v493 v495 v497 v499 v501 v503 v505 v507 v509 v511 v513 v515 (top m ρ 14) (top m ρ 15), k0_pay37 v489 v491 v493 v495 v497 v499 v501 v503 v505 v507 v509 v511 v513 v515 (top m ρ 14) (top m ρ 15)⟩) :
    iprop(scrPts m ρ c ∗ R) ⊢ wp frame (wpE (defs₀ (F := F)) 𝒱₀ (c : Thread nD τ) none) Set.univ
      (k0_part17 (F := F) xM (Memref.isWhole_whole _) oM (Memref.isWhole_whole _) rM (Memref.isWhole_whole _) cc0_scratch1 cc0_scratch2 v489 v491 v493 v495 v497 v499 v501 v503 v505 v507 v509 v511 v513 v515) Q := by
  rw [k0_part17_eq_skeleton]; unfold k0_part17_skel
  refine load_slot m ρ c 14 rfl ?_
  refine load_slot m ρ c 15 rfl ?_
  exact step_ret c H

end Cert.Exchange

end
-- ==== Proof.Whole.lean ====
/-
  The whole body on a device: from what the launch deals it and the staged block to the gathered scratch, its
  semaphores at zero and the result stored; then the pipeline's obligation for it.
-/
module

public import proofs.«01_k».proof.Proof.Body
public import proofs.«01_k».proof.Proof.Gen.KernelIdeal.Points
public import proofs.«01_k».proof.Proof.Gen.KernelIdeal.Frame

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD)

/-- A product over all devices: the device's own and its peers'. -/
theorem univ_pe (Φ : Dev nD → sProp 𝕄) :
    bigSep Finset.univ Φ = (iprop(Φ c ∗ bigSep (Finset.Ico 1 16) fun r => Φ (pe c r)) : sProp 𝕄) := by
  rw [bigSep_pe c Φ]; exact bigSep_erase (Finset.mem_univ c)
theorem univ_sum {A B : Type} [Fintype A] [Fintype B] (Φ : A ⊕ B → sProp 𝕄) :
    bigSep Finset.univ Φ = (iprop((bigSep Finset.univ fun a => Φ (.inl a)) ∗ bigSep Finset.univ fun b => Φ (.inr b)) : sProp 𝕄) :=
  bigSep_univ_sum Φ

/-! ## What a device starts from -/

/-- Its positions at its cells. -/
def posns (c : Dev nD) : sProp 𝕄 := bigSep Finset.univ fun k : CIx => (atPos ER (kcell (c, k)) 0 ∅ 0 : sProp 𝕄)
/-- The duties it pays. -/
def duties (c : Dev nD) : sProp 𝕄 :=
  iprop((bigSep (Finset.Ico 1 16) fun r => (dutyTok ER (barCell (pe c r)) 0 c : sProp 𝕄)) ∗ toks c)
def ghost (K : Dev nD × CIx → ℕ) (c : Dev nD) : sProp 𝕄 := iprop(records m ρ K ∗ posns c ∗ duties c)
/-- The credits it waits with: its barrier's fifteen units and a copy from every other device. -/
def credits (c : Dev nD) : sProp 𝕄 :=
  iprop(cred (tallyAt (barCell c) () 15) ∗ bigSep (Finset.Ico 1 16) fun r => (cred (tallyAt (recvCell c (pe c r)) () N) : sProp 𝕄))
def start (c : Dev nD) : sProp 𝕄 := iprop((∃ K, ghost m ρ K c) ∗ credits c ∗ levAts L lv)

/-- Its positions at its cells for itself, which carry no duty. -/
def selfs (c : Dev nD) : sProp 𝕄 := iprop(atPos ER (sendCell c c) 0 ∅ 0 ∗ atPos ER (recvCell c c) 0 ∅ 0)

theorem posns_split : (posns c : sProp 𝕄)
    ⊢ iprop(atPos ER (barCell c) 0 ∅ 0 ∗ (bigSep (Finset.Ico 1 16) fun r => atPos ER (recvCell c (pe c r)) 0 ∅ 0) ∗ snd c ∗ selfs c) := by
  unfold posns snd selfs
  rw [univ_sum, univ_sum, univ_pe c fun t => (atPos ER (kcell (c, .inr (.inl t))) 0 ∅ 0 : sProp 𝕄),
    univ_pe c fun t => (atPos ER (kcell (c, .inr (.inr t))) 0 ∅ 0 : sProp 𝕄)]
  iintro ⟨Hb, ⟨Hss, Hs⟩, Hrs, Hr⟩
  isplitl [Hb]
  · have h : (bigSep Finset.univ fun u : Unit => (atPos ER (kcell (c, .inl u)) 0 ∅ 0 : sProp 𝕄)) ⊢ (atPos ER (barCell c) 0 ∅ 0 : sProp 𝕄) :=
      bigSep_elim (Finset.mem_univ ())
    iapply h; iexact Hb
  isplitl [Hr]; · iexact Hr
  isplitl [Hs]; · iexact Hs
  isplitl [Hss] <;> iassumption

/-- The launch's deal, opened for the first phase. -/
theorem opened (f : Buf (Elt F) ((c : Thread nD τ).loc cc0_scratch0)) :
    iprop(ghost m ρ K c ∗ credits c ∗ levAts L lv ∗ (((c : Thread nD τ).loc cc0_scratch0) ↦{fullShare} f) ∗ dues c (O₀ c))
      ⊢ (iprop(env m ρ K ∗ S1 c 1 ∗ (cred (tallyAt (barCell c) () 15) ∗ atPos ER (barCell c) 0 ∅ 0)
        ∗ (∃ f, slotPts c c fullShare f) ∗ toks c ∗ rcv c ∗ snd c ∗ selfs c) : sProp 𝕄) := by
  have hsl : (bigSep (Finset.Ico 1 16) fun r => slotPts c (pe c r) fullShare f : sProp 𝕄)
      ⊢ bigSep (Finset.Ico 1 16) fun r => iprop(∃ f, slotPts c (pe c r) fullShare f) :=
    bigSep_mono fun r _ => BIClass.exists_intro (Φ := fun f => slotPts c (pe c r) fullShare f) f
  unfold ghost credits duties env S1 rcv O₀
  rw [slots_eq c fullShare f, univ_pe c, bigSep_sep', bigSep_sep']
  iintro ⟨⟨#Hrec, Hpos, Htb, Htk⟩, ⟨Hcb, Hcr⟩, #Hlev, ⟨Hown, Hsl⟩, HO⟩
  ihave Hp := (posns_split c) $$ Hpos
  icases Hp with ⟨Hpb, Hpr, Hps, Hself⟩
  isplitr
  · isplitl <;> iassumption
  isplitl [HO Htb Hsl]
  · isplitl [HO]; · iexact HO
    isplitl [Htb]
    · iexact Htb
    · iapply hsl; iexact Hsl
  isplitl [Hcb Hpb]
  · isplitl [Hcb] <;> iassumption
  isplitl [Hown]; · iexists f; iexact Hown
  isplitl [Htk]; · iexact Htk
  isplitl [Hcr Hpr]
  · isplitl [Hcr] <;> iassumption
  isplitl [Hps] <;> iassumption

/-! ## What it ends with -/

/-- The kernel's own semaphores, at zero. -/
abbrev zeros (c : Dev nD) : sProp 𝕄 := Pipeline.ownSems0 (Ix := Unit) (Name := ℕ) (U := UU) (Lvl := ℕ) (Val := Elt F) (τ := τ) osem c

/-- The cells for itself close, and with them all its semaphores are at zero. -/
theorem closed : iprop(env m ρ K ∗ sems c ∗ selfs c) ⊢ (|={Set.univ}=> zeros c : sProp 𝕄) := by
  unfold sems selfs zeros Pipeline.ownSems0
  rw [univ_sum, univ_pe c fun t => (semVal ((c : Thread nD τ), osem (.inl t)) 0 : sProp 𝕄),
    univ_pe c fun t => (semVal ((c : Thread nD τ), osem (.inr t)) 0 : sProp 𝕄)]
  iintro ⟨#He, ⟨Hr, Hs⟩, Has, Har⟩
  ihave #HI := (env_cell m ρ K (c, .inr (.inl c))) $$ He
  icases HI with ⟨#HI1, -⟩
  ihave #HJ := (env_cell m ρ K (c, .inr (.inr c))) $$ He
  icases HJ with ⟨#HJ1, -⟩
  imod (Rounds.cell_close ER (sched m ρ) (Set.mem_univ (K (c, .inr (.inl c)))) (fun h => h) (R := 0) (duties_send_self m ρ c)) $$ [Has] with Hzs
  · isplitr; · iexact HI1
    iexact Has
  imod (Rounds.cell_close ER (sched m ρ) (Set.mem_univ (K (c, .inr (.inr c)))) (fun h => h) (R := 0) (duties_recv_self m ρ c)) $$ [Har] with Hzr
  · isplitr; · iexact HJ1
    iexact Har
  imodintro
  isplitl [Hs Hzs]
  · isplitl [Hzs] <;> iassumption
  · isplitl [Hzr] <;> iassumption

/-- What the body leaves. -/
def left (c : Dev nD) : sProp 𝕄 :=
  iprop((scrPts m ρ c ∗ semVal (barCell c) 0 ∗ zeros c) ∗ dues c 0 ∗ xPts m ρ c ∗ (((c : Thread nD τ).loc cc0_stg1_0) ↦{fullShare} (outAt m ρ)))

/-- The load of the result's buffer, whose value is not used, and the store of the result. -/
theorem write_out {p p' hl hs hm} {Q : PUnit → sProp 𝕄} {P : sProp 𝕄} (g : (cc0_stg1_0 : Ref sig .tc).ty.Contents (Elt F))
    (H : iprop((((c : Thread nD τ).loc cc0_stg1_0) ↦{fullShare} (outAt m ρ)) ∗ P) ⊢ |={Set.univ}=> Q ⟨⟩) :
    iprop((((c : Thread nD τ).loc cc0_stg1_0) ↦{fullShare} g) ∗ P) ⊢ wp frame (wpE (defs₀ (F := F)) 𝒱₀ (c : Thread nD τ) none) Set.univ
      (Prog.lift (.load oM (Rect.unit (s := S256x8) ![0, 0] S256x8.size p).toLoadRect hl) >>= fun _ =>
        Prog.lift (.store oM (Rect.unit (s := S256x8) ![0, 0] S256x8.size p') (outAt m ρ) Finset.univ hs hm) >>= fun _ => pure ⟨⟩) Q := by
  simp only [Prog.lift, Prog.bind_op, Prog.bind_ret, Prog.pure_eq_ret]
  iintro ⟨Ho, HP⟩
  iapply (wp_load 𝒱₀ (c : Thread nD τ) none Set.univ (m := oM) (Finset.subset_univ _)) $$ Ho; iintro Ho
  iapply (wp_store 𝒱₀ (c : Thread nD τ) none Set.univ (m := oM) (r := Rect.unit (s := S256x8) ![0, 0] S256x8.size p') (Mk := Finset.univ) (Finset.subset_univ _)) $$ Ho; iintro Ho
  have hw : ((oM : Memref sig .tc .vmem S256x8 .f32).access (Rect.unit (s := S256x8) ![0, 0] S256x8.size p') : View sig .tc _ _ _).write (Elt F) g (outAt m ρ) Finset.univ = outAt m ρ :=
    Memref.write_access_unit_zero_univ (Elt F) cc0_stg1_0 hz _ g _
  rw [hw, wp_ret]
  iapply H
  isplitl [Ho] <;> iassumption

/-! ## The body -/

set_option maxRecDepth 65536 in
/-- The body, part by part. -/
theorem sound_body (g : (cc0_stg1_0 : Ref sig .tc).ty.Contents (Elt F)) :
    iprop(env m ρ K ∗ S1 c 1 ∗ (cred (tallyAt (barCell c) () 15) ∗ atPos ER (barCell c) 0 ∅ 0) ∗ xPts m ρ c
        ∗ ((∃ f, slotPts c c fullShare f) ∗ toks c ∗ rcv c ∗ snd c ∗ selfs c) ∗ (((c : Thread nD τ).loc cc0_stg1_0) ↦{fullShare} g))
      ⊢ wp frame (wpE (defs₀ (F := F)) 𝒱₀ (c : Thread nD τ) none) Set.univ
          (cc0_body (F := F) xM (Memref.isWhole_whole _) oM (Memref.isWhole_whole _) rM (Memref.isWhole_whole _) cc0_scratch1 cc0_scratch2) (fun _ => left m ρ c) := by
  rw [cc0_body_eq_skeleton]; unfold cc0_body_skel
  rw [wp_bind]; refine part1 m ρ K c ?_; dsimp only
  rw [wp_bind]; refine part2 m ρ K c _ ?_; dsimp only
  rw [wp_bind, k0_part3_eq_skeleton]; unfold k0_part3_skel
  refine step_ret c ?_; dsimp only
  refine step_from c (P' := iprop((∃ f, slotPts c c fullShare f) ∗ (env m ρ K ∗ (dues c (owedRecv c 1)
      ∗ bigSep (Finset.Ico 1 16) (fun r => iprop(∃ f, slotPts (pe c r) c fullShare f))) ∗ toks c ∗ rcv c ∗ snd c
      ∗ (semVal (barCell c) 0 ∗ xPts m ρ c ∗ selfs c ∗ (((c : Thread nD τ).loc cc0_stg1_0) ↦{fullShare} g))))) ?_ ?_
  · iintro ⟨Hx, He, ⟨Hd, Hz, Hp⟩, ⟨Hown, Ht, Hr, Hs, Hself⟩, Hg⟩
    isplitl [Hown]; · iexact Hown
    isplitl [He]; · iexact He
    isplitl [Hd Hp]
    · isplitl [Hd] <;> iassumption
    isplitl [Ht]; · iexact Ht
    isplitl [Hr]; · iexact Hr
    isplitl [Hs]; · iexact Hs
    isplitl [Hz]; · iexact Hz
    isplitl [Hx]; · iexact Hx
    isplitl [Hself] <;> iassumption
  rw [wp_bind]; refine part4 m ρ c _ _ _ _ _ _ _ _ _ rfl ?_
  refine step_from c (P' := iprop(env m ρ K ∗ S2 m ρ c 1 ∗ rcv c ∗ snd c ∗ keep m ρ c
      ∗ (semVal (barCell c) 0 ∗ xPts m ρ c ∗ selfs c ∗ (((c : Thread nD τ).loc cc0_stg1_0) ↦{fullShare} g)))) ?_ ?_
  · iintro ⟨Hown, He, ⟨Hd, Hp⟩, Ht, Hr, Hs, Hrest⟩
    ihave H2 := (to_copies m ρ c) $$ [Hd Hp Hown Ht]
    · isplitl [Hd]; · iexact Hd
      isplitl [Hp]; · iexact Hp
      isplitl [Hown] <;> iassumption
    icases H2 with ⟨H2, Hk⟩
    isplitl [He]; · iexact He
    isplitl [H2]; · iexact H2
    isplitl [Hr]; · iexact Hr
    isplitl [Hs]; · iexact Hs
    isplitl [Hk] <;> iassumption
  rw [wp_bind]; refine part5 m ρ K c _ ?_
  rw [wp_bind]; refine part6 m ρ K c _ ?_
  rw [wp_bind]; refine part7 m ρ K c _ ?_
  rw [wp_bind]; refine part8 m ρ K c _ ?_
  rw [wp_bind]; refine part9 m ρ K c _ ?_
  rw [wp_bind]; refine part10 m ρ K c _ ?_
  rw [wp_bind]; refine part11 m ρ K c _ ?_
  rw [wp_bind]; refine part12 m ρ K c _ ?_
  rw [wp_bind]; refine part13 m ρ K c ?_
  rw [wp_bind]; refine part14 m ρ K c ?_
  rw [wp_bind]; refine part15 m ρ K c ?_; dsimp only
  rw [wp_bind]; refine part16 m ρ c ?_; dsimp only
  rw [wp_bind]; refine part17 m ρ c _ _ _ _ _ _ _ _ _ _ _ _ _ _ ?_; dsimp only
  rw [wp_bind, k0_part18_eq_skeleton]; unfold k0_part18_skel
  refine step_ret c ?_; dsimp only
  refine step_from c (P' := iprop((((c : Thread nD τ).loc cc0_stg1_0) ↦{fullShare} g) ∗ (scrPts m ρ c ∗ env m ρ K ∗ dues c 0 ∗ sems c
      ∗ semVal (barCell c) 0 ∗ xPts m ρ c ∗ selfs c))) ?_ ?_
  · iintro ⟨Hscr, He, ⟨Hd, Hz⟩, Hb, Hx, Hself, Hg⟩
    isplitl [Hg]; · iexact Hg
    isplitl [Hscr]; · iexact Hscr
    isplitl [He]; · iexact He
    isplitl [Hd]; · iexact Hd
    isplitl [Hz]; · iexact Hz
    isplitl [Hb]; · iexact Hb
    isplitl [Hx] <;> iassumption
  refine write_out m ρ c g ?_
  unfold left
  iintro ⟨Hg, Hscr, He, Hd, Hz, Hb, Hx, Hself⟩
  imod (closed m ρ K c) $$ [He Hz Hself] with Hz
  · isplitl [He]; · iexact He
    isplitl [Hz] <;> iassumption
  imodintro
  isplitl [Hscr Hb Hz]
  · isplitl [Hscr]; · iexact Hscr
    isplitl [Hb] <;> iassumption
  isplitl [Hd]; · iexact Hd
  isplitl [Hx] <;> iassumption

/-! ## The pipeline's obligation -/

def Φ₀ (c : Dev nD) : sProp 𝕄 := iprop(start m ρ c ∗ ∃ f, (((c : Thread nD τ).loc cc0_scratch0) ↦{fullShare} f))
/-- After the only point: the gathered scratch and every semaphore of the device at zero. -/
def Φ₁ (c : Dev nD) : sProp 𝕄 := iprop(scrPts m ρ c ∗ semVal (barCell c) 0 ∗ zeros c)

/-- What the pipeline's run is about on device `c`: the staged block stays, the result's buffer takes `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem cfg0_N : cfg0.N = 1 := by decide
abbrev t₀ : Fin cfg0.N := ⟨0, by rw [cfg0_N]; decide⟩
theorem fin_N (t : Fin cfg0.N) : t = t₀ := Fin.ext (by have h : t.val < 1 := cfg0_N ▸ t.isLt; show t.val = 0; omega)
theorem fetch_0 (t : Fin cfg0.N) : (cfg0.win (0 : Fin 2)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m ρ c ∗ (dats m ρ 0 c).owesAt () t₀.succ ∗ stg c cc0_stg0_0 (xstg m ρ c) ∗ stg c cc0_stg1_0 (outAt m ρ))

theorem left_post : (left m ρ c : sProp 𝕄) ⊢ bodyPost m ρ c := by
  unfold left bodyPost Φ₁ dues Dat.owesAt Pipeline.owesWithin xPts
  rw [show (dats m ρ 0 c).owed t₀.succ = 0 from rfl]
  iintro ⟨HΦ, ⟨%W, HO⟩, Hx, Ho⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 65536 in
/-- The pipeline's obligation for the body on device `c`. -/
theorem body_obligation : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ
    (cc0_body (F := F) xM (Memref.isWhole_whole _) oM (Memref.isWhole_whole _) rM (Memref.isWhole_whole _) cc0_scratch1 cc0_scratch2) (fun _ => bodyPost m ρ c)
  unfold bodyPre Φ₀ start Dat.owesAt Pipeline.owesWithin
  iintro ⟨⟨⟨⟨%K, HG⟩, Hcr, Hlev⟩, ⟨%f, Hscr⟩⟩, ⟨%W, %hW, HO⟩, ⟨%d0, %g0, %hg0, Hx⟩, ⟨%d1, %g1, %hg1, Hout⟩⟩
  have hx : g0 = xstg m ρ c := by rw [hg0]; unfold Dat.before; rw [if_pos (fetch_0 t₀)]; rfl
  subst hx
  rw [show (dats m ρ 0 c).owed t₀.castSucc = O₀ c from rfl]
  iapply (wp_mono frame (wpE (defs₀ (F := F)) 𝒱₀ (c : Thread nD τ) none) Set.univ fun _ => left_post m ρ c)
  iapply (sound_body m ρ K c g1)
  ihave H := (opened m ρ K c f) $$ [HG Hcr Hlev Hscr HO]
  · isplitl [HG]; · iexact HG
    isplitl [Hcr]; · iexact Hcr
    isplitl [Hlev]; · iexact Hlev
    isplitl [Hscr]; · iexact Hscr
    unfold dues; iexists W; iexact HO
  icases H with ⟨He, H1, Hb, H⟩
  isplitl [He]; · iexact He
  isplitl [H1]; · iexact H1
  isplitl [Hb]; · iexact Hb
  isplitl [Hx]; · unfold xPts; iexact Hx
  isplitl [H] <;> iassumption

end Cert.Exchange

end
-- ==== Proof.Run.lean ====
/-
  The launch: what is dealt to the devices, the credits it starts them with, and the run of the whole program for any
  float values.
-/
module

public import proofs.«01_k».proof.Proof.Whole
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the launch element holds -/

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by
  rintro (u | t | t) (u' | t' | t') h
  · rfl
  · exact absurd h.symm (by intro h; cases h)
  · exact absurd h.symm (by intro h; cases h)
  · exact absurd h (by intro h; cases h)
  · rw [sendS_inj t t' (SemLoc.dma.inj h)]
  · exact absurd (SemLoc.dma.inj h) (sendS_ne_recvS t t')
  · exact absurd h (by intro h; cases h)
  · exact absurd (SemLoc.dma.inj h).symm (sendS_ne_recvS t' t)
  · rw [recvS_inj t t' (SemLoc.dma.inj h)]
theorem kcell_injective : Function.Injective (kcell : Dev nD × CIx → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  rw [h2]
def ringCells : Finset (GSem nD τ sig) := Finset.univ.map ⟨kcell, kcell_injective⟩

/-- The tokens device `c` pays with, for each device `t`: the signal to it, the copy's arrival there and its departure. -/
abbrev tokOf (x : Dev nD × (Dev nD ⊕ (Dev nD ⊕ Dev nD))) : GSem nD τ sig × ℕ × Dev nD := match x.2 with
  | .inl t => (barCell t, 0, x.1) | .inr (.inl t) => (sendCell x.1 t, 0, t) | .inr (.inr t) => (recvCell t x.1, 0, x.1)
theorem tokOf_injective : Function.Injective tokOf := by
  rintro ⟨c, t | t | t⟩ ⟨c', t' | t' | t'⟩ h <;> have hs := congrArg (fun x : GSem nD τ sig × ℕ × Dev nD => x.1.2) h <;>
    have hc := congrArg (fun x : GSem nD τ sig × ℕ × Dev nD => x.1.1.1) h <;> have hn := congrArg (fun x : GSem nD τ sig × ℕ × Dev nD => x.2.2) h <;>
    dsimp only at hs hc hn
  · rw [hc, hn]
  · cases hs
  · cases hs
  · cases hs
  · rw [hc, hn]
  · exact absurd (SemLoc.dma.inj hs) (sendS_ne_recvS _ _)
  · cases hs
  · exact absurd (SemLoc.dma.inj hs).symm (sendS_ne_recvS _ _)
  · rw [hc, hn]
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- The tokens minted for a device hold those of its duties. -/
theorem duties_of (c : Dev nD) :
    (bigSep Finset.univ fun k => (dutyTok ER (tokOf (c, k)).1 (tokOf (c, k)).2.1 (tokOf (c, k)).2.2 : sProp 𝕄)) ⊢ duties c := by
  unfold duties Cert.Exchange.toks
  rw [univ_sum, univ_sum, univ_pe c fun t => (dutyTok ER (tokOf (c, .inl t)).1 (tokOf (c, .inl t)).2.1 (tokOf (c, .inl t)).2.2 : sProp 𝕄),
    univ_pe c fun t => (dutyTok ER (tokOf (c, .inr (.inl t))).1 (tokOf (c, .inr (.inl t))).2.1 (tokOf (c, .inr (.inl t))).2.2 : sProp 𝕄),
    univ_pe c fun t => (dutyTok ER (tokOf (c, .inr (.inr t))).1 (tokOf (c, .inr (.inr t))).2.1 (tokOf (c, .inr (.inr t))).2.2 : sProp 𝕄), bigSep_sep']
  iintro ⟨⟨-, Hb⟩, ⟨-, Hs⟩, -, Hr⟩
  isplitl [Hb]; · iexact Hb
  isplitl [Hs] <;> iassumption

/-- What the launch deals device `c`. -/
def G (c : Dev nD) : sProp 𝕄 :=
  iprop((bigSep Finset.univ fun k : CIx => roundState ER (sched m ρ) (kcell (c, k)) 0)
    ∗ posns c ∗ (bigSep Finset.univ fun k : CIx => reached ER (kcell (c, k)) 0) ∗ duties c)
/-- What the devices make of it together. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CIx => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => duties c := by
    unfold ringToks; rw [bigSep_map, bigSep_univ_prod]
    exact bigSep_mono fun c _ => duties_of c
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G posns; simp only [bigSep_sep']
  isplitl [Hst']; · iexact Hst'
  isplitl [Hat']; · iexact Hat'
  isplitl [Hr'] <;> iassumption

/-! ## The invariants -/

theorem univ_unit (Φ : Unit → sProp 𝕄) : bigSep Finset.univ Φ = Φ () := bigSep_singleton (i := ()) (Φ := Φ)

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) : iprop(zeros c ∗ unscopedSems0 c) ⊢ (bigSep Finset.univ fun k : CIx => semVal (kcell (c, k)) 0 : sProp 𝕄) := by
  rw [unscopedSems0_eq, univ_sum, univ_unit]
  unfold zeros Pipeline.ownSems0
  iintro ⟨H, HB⟩
  isplitl [HB] <;> iassumption

/-- A device's cells get their invariants. -/
theorem core_alloc (c : Dev nD) : iprop(zeros c ∗ unscopedSems0 c ∗ G m ρ c)
      ⊢ |={Set.univ}=> (iprop((bigSep Finset.univ fun k => iprop(∃ κ : ℕ, cellInv ER (sched m ρ) κ (kcell (c, k))))
          ∗ posns c ∗ (bigSep Finset.univ fun k : CIx => reached ER (kcell (c, k)) 0) ∗ duties c) : sProp 𝕄) := by
  unfold G
  iintro ⟨Hos, Hus, Hst, Hrest⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv] <;> iassumption

theorem ghost_intro (K : Dev nD × CIx → ℕ) (c : Dev nD) : iprop(records m ρ K ∗ posns c ∗ duties c) ⊢ G' m ρ c := by
  unfold G' ghost
  iintro H; iexists K; iexact H

/-- Something persistent may be used for every member. -/
theorem bigSep_with {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

/-- The invariants' names become known to all. -/
theorem regroup :
    (bigSep Finset.univ fun c : Dev nD => iprop((bigSep Finset.univ fun k => iprop(∃ κ : ℕ, cellInv ER (sched m ρ) κ (kcell (c, k))))
          ∗ posns c ∗ (bigSep Finset.univ fun k : CIx => reached ER (kcell (c, k)) 0) ∗ duties c) : sProp 𝕄)
      ⊢ bigSep Finset.univ (G' m ρ) := by
  rw [bigSep_sep', bigSep_sep', bigSep_sep', ← bigSep_univ_prod (fun ck : Dev nD × CIx => iprop(∃ κ : ℕ, cellInv ER (sched m ρ) κ (kcell ck))),
    ← bigSep_univ_prod (fun ck : Dev nD × CIx => (reached ER (kcell ck) 0 : sProp 𝕄))]
  iintro ⟨HI, Hat, #HR, Htok⟩
  ihave HK := (BI.bigSep_exists_pi Finset.univ (fun (ck : Dev nD × CIx) (κ : ℕ) => (cellInv ER (sched m ρ) κ (kcell ck) : sProp 𝕄))) $$ HI
  icases HK with ⟨%K, #HI⟩
  iapply (bigSep_with (R := records m ρ K) fun c => ghost_intro m ρ K c)
  isplitr
  · unfold records; rw [bigSep_sep']
    isplitl; · iexact HI
    iexact HR
  · rw [bigSep_sep']
    isplitl [Hat] <;> iassumption

theorem glob : (bigSep Finset.univ fun c => iprop(zeros c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- What device `d` owes a cell: the sum over the devices other than `d` of what it owes each of them. -/
theorem owed_at (d : Dev nD) (g : Dev nD → GSem nD τ sig) (n : ℕ) (x : GSem nD τ sig) :
    (∑ r ∈ Finset.Ico 1 16, (tallyAt (g (pe d r)) () n : CellTallies nD τ sig Unit)) x () = ∑ t ∈ Finset.univ.erase d, if g t = x then n else 0 := by
  rw [← pe_image d, Finset.sum_image (pe_inj d), Finset.sum_apply, Finsupp.finset_sum_apply]
  refine Finset.sum_congr rfl fun r _ => ?_
  rw [tallyAt_apply]
  by_cases h : g (pe d r) = x
  · rw [if_pos ⟨h.symm, rfl⟩, if_pos h]
  · rw [if_neg fun h' => h h'.1.symm, if_neg h]

theorem bar_inj {a b : Dev nD} (h : barCell a = barCell b) : a = b := congrArg (fun g : GSem nD τ sig => g.1.1) h
theorem recv_inj {a b i j : Dev nD} (h : recvCell a i = recvCell b j) : a = b ∧ i = j :=
  ⟨congrArg (fun g : GSem nD τ sig => g.1.1) h, recvS_inj i j (SemLoc.dma.inj (congrArg Prod.snd h))⟩

/-- Device `d` owes the barrier of every other device one unit. -/
theorem owed_bar (d c : Dev nD) : O₀ d (barCell c) () = if c = d then 0 else 1 := by
  have h0 : owedRecv d 1 (barCell c) () = 0 := Nat.eq_zero_of_not_pos fun h => by
    obtain ⟨t, ht⟩ := owedRecv_pos h; exact absurd (congrArg Prod.snd ht).symm (dma_ne_bar _)
  unfold O₀
  rw [Pi.add_apply, Finsupp.add_apply, h0, Nat.zero_add]
  unfold owedBar
  rw [owed_at d (fun t => barCell t) 1]
  split
  · next h => subst h; exact Finset.sum_eq_zero fun t ht => if_neg fun h => Finset.ne_of_mem_erase ht (bar_inj h)
  · next h => rw [Finset.sum_eq_single_of_mem c (Finset.mem_erase.mpr ⟨h, Finset.mem_univ _⟩) (fun t _ ht => if_neg fun h => ht (bar_inj h)), if_pos rfl]

/-- Device `d` owes a copy to its own receive cell on every other device. -/
theorem owed_recv (d c i : Dev nD) (hi : c ≠ i) : O₀ d (recvCell c i) () = if d = i then N else 0 := by
  have h0 : owedBar d 1 (recvCell c i) () = 0 := Nat.eq_zero_of_not_pos fun h => by
    obtain ⟨t, ht⟩ := owedBar_pos h; exact absurd (congrArg Prod.snd ht) (dma_ne_bar _)
  unfold O₀
  rw [Pi.add_apply, Finsupp.add_apply, h0, Nat.add_zero]
  unfold owedRecv
  rw [owed_at d (fun t => recvCell t d) N]
  split
  · next h =>
    subst h
    rw [Finset.sum_eq_single_of_mem c (Finset.mem_erase.mpr ⟨hi, Finset.mem_univ _⟩) (fun t _ ht => if_neg fun h => ht (recv_inj h).1), if_pos rfl]
  · next h => exact Finset.sum_eq_zero fun t _ => if_neg fun h' => h (recv_inj h').2

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c i : Dev nD) (hi : c ≠ i) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i hi,
    Finset.sum_ite_eq' Finset.univ i fun _ => N, if_pos (Finset.mem_univ _)]

/-- The receive cells of the other devices' copies, among a device's semaphores other than its barrier's. -/
def recvSet (c : Dev nD) : Finset (SemLoc sig) := (Finset.univ.erase c).map ⟨fun t => .dma (recvS t), fun a b h => recvS_inj a b (SemLoc.dma.inj h)⟩

theorem creds (c : Dev nD) : (Pipeline.launchCred O₀ c : sProp 𝕄) ⊢ credits c := by
  unfold Pipeline.launchCred credits
  rw [bigSep_univ_at _ (SemLoc.reg barS), launch_bar, bigSep_pe c fun t => (cred (tallyAt (recvCell c t) () N) : sProp 𝕄)]
  refine sep_mono_right ?_
  have hsub : recvSet c ⊆ Finset.univ.erase (SemLoc.reg barS) := fun x hx => by
    obtain ⟨t, -, rfl⟩ := Finset.mem_map.mp hx
    exact Finset.mem_erase.mpr ⟨dma_ne_bar _, Finset.mem_univ _⟩
  refine (bigSep_subset hsub).trans ?_
  unfold recvSet
  rw [bigSep_map]
  exact bigSep_mono fun t ht => Entails.of_eq
    (congrArg (fun k => (cred k : sProp 𝕄)) (launch_recv c t (Finset.ne_of_mem_erase ht).symm))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> (iprop(start m ρ c ∗ emp) : sProp 𝕄) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, unscopedSems0_eq]
  unfold Φ₁
  iintro ⟨Hr, Hb, Hz⟩
  isplitl [Hb]; · iexact Hb
  isplitl [Hz]; · iexact Hz
  iexists (gath m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of sixteen devices, for any float values and from any memory with zero counters, every run ends, with
    each device's result array at the computed contents, its block unchanged and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block a device starts with is unchanged. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array holds `outAt`. -/
theorem finalA_o (c : Dev nD) : finalA m ρ c (1 : Fin 2) = outAt m ρ := by
  have hw : (win0_1.blk t₀).view.read (Elt F) (finalA m ρ c (1 : Fin 2)) = outAt m ρ := by
    unfold finalA
    rw [show cfg0.N = (t₀ : Fin cfg0.N).val + 1 from cfg0_N, (dats m ρ 0 c).arrAt_succ (1 : Fin 2) t₀, flush0_1, if_pos rfl]
    exact View.read_write_univ _ _
  exact (Memref.read_access_unit_zero (Elt F) main_v1
    (show (fun a => (win0_1.index t₀) a * main_v1.ty.shape.size a) = fun _ => 0 from
      funext fun a => by fin_cases a <;> decide) (fun a => by fin_cases a <;> decide) _).symm.trans hw

end Cert.Exchange

end
-- ==== Proof.TopRow.lean ====
/- Rows of extended reals and their greatest entries, as lists: what taking the maximum and erasing it, again and again,
   lists; the greatest entries of the greatest entries of parts; a row read in descending order. -/
module

public import Idealize.ShloMosaic.Lib.SortNet.TopList
public import Idealize.ShloMosaic.PureOps.Ideal.Laws

@[expose] public section

namespace Cert.TopRow

open Idealize.ShloMosaic.SortNet

variable {α : Type} [LinearOrder α]

/-- A greatest entry put in front of the `k` greatest of the rest gives the `k + 1` greatest of them all. -/
theorem topList_cons_max {k : ℕ} {m : α} {r : List α} (hm : ∀ a ∈ r, a ≤ m) (hk : k ≤ r.length) :
    topList (k + 1) (m :: r) = m :: topList k r := by
  have hs := List.pairwise_insertionSort (· ≥ ·) r
  have hp : ((m :: topList k r) ++ (r.insertionSort (· ≥ ·)).drop k).Perm (m :: r) := by
    rw [List.cons_append, topList, List.take_append_drop]
    exact (List.perm_insertionSort (· ≥ ·) r).cons m
  have ht : (m :: topList k r).Pairwise (· ≥ ·) :=
    List.pairwise_cons.mpr ⟨fun a ha => hm a (mem_of_mem_topList ha), pairwise_topList k r⟩
  have hd : ∀ a ∈ m :: topList k r, ∀ b ∈ (r.insertionSort (· ≥ ·)).drop k, b ≤ a := by
    intro a ha b hb
    rcases List.mem_cons.mp ha with rfl | ha
    · exact hm b ((List.mem_insertionSort (· ≥ ·)).mp (List.mem_of_mem_drop hb))
    · rw [← List.take_append_drop k (r.insertionSort (· ≥ ·))] at hs
      exact (List.pairwise_append.mp hs).2.2 a ha b hb
  have h := eq_topList hp ht hd
  rw [List.length_cons, length_topList, Nat.min_eq_left hk] at h
  exact h.symm

/-- A least entry more does not change the `k` greatest of at least `k` entries. -/
theorem topList_cons_least {k : ℕ} {m : α} {r : List α} (hm : ∀ a ∈ r, m ≤ a) (hk : k ≤ r.length) :
    topList k (m :: r) = topList k r := by
  rw [topList_perm (List.perm_append_singleton m r).symm]
  refine topList_append_of_le k r [m] hk fun s hs a ha => ?_
  rw [List.mem_singleton.mp hs]
  exact hm a (mem_of_mem_topList ha)

/-- The `k` greatest of parts' `k` greatest are the `k` greatest of the parts together. -/
theorem topList_flatten (k : ℕ) (L : List (List α)) : topList k ((L.map (topList k)).flatten) = topList k L.flatten := by
  induction L with
  | nil => rfl
  | cons a L ih =>
    rw [List.map_cons, List.flatten_cons, List.flatten_cons, topList_append_topList, ← topList_append_topList_topList,
      ih, topList_append_topList_topList]

/-- A row read along a permutation of its places that puts it in descending order: its first `k` entries are its `k`
    greatest. -/
theorem take_descending {n k : ℕ} (x : Fin n → α) (σ : Fin n → Fin n) (hσ : Function.Bijective σ)
    (hd : ∀ i j, i < j → x (σ j) ≤ x (σ i)) : (List.ofFn fun i => x (σ i)).take k = topList k (List.ofFn x) := by
  have hp : (List.ofFn fun i => x (σ i)).Perm (List.ofFn x) := Equiv.Perm.ofFn_comp_perm (Equiv.ofBijective σ hσ) x
  have hs : (List.ofFn fun i => x (σ i)).Pairwise (· ≥ ·) := List.pairwise_ofFn.mpr fun i j h => hd i j h
  rw [topList, eq_of_perm_of_descending (hp.trans (List.perm_insertionSort (· ≥ ·) _).symm) hs
    (List.pairwise_insertionSort (· ≥ ·) _)]

/-! ## Taking the maximum and erasing it -/

/-- The greatest entry of a row, from −∞. -/
noncomputable def rowMax {n : ℕ} (v : Fin n → EReal) : EReal := Finset.univ.fold max ⊥ v

/-- No entry exceeds the greatest. -/
theorem le_rowMax {n : ℕ} (v : Fin n → EReal) (i : Fin n) : v i ≤ rowMax v :=
  (Finset.le_fold_max (v i)).mpr (.inr ⟨i, Finset.mem_univ i, le_rfl⟩)

/-- A row that is not empty holds its greatest entry. -/
theorem exists_rowMax {n : ℕ} [NeZero n] (v : Fin n → EReal) : ∃ i, v i = rowMax v := by
  obtain ⟨i, -, hi⟩ := Finset.exists_max_image Finset.univ v ⟨0, Finset.mem_univ _⟩
  exact ⟨i, le_antisymm (le_rowMax v i)
    (Finset.fold_max_le (v i) |>.mpr ⟨bot_le, fun j hj => hi j hj⟩)⟩

/-- `w` is `v` with one place that holds the greatest entry overwritten by −∞. -/
def Erased {n : ℕ} (v w : Fin n → EReal) : Prop := ∃ p, v p = rowMax v ∧ w = Function.update v p ⊥

/-- Erasing a greatest entry over and over, the greatest entries seen on the way are the row's greatest entries. -/
theorem maxima_eq_topList {n : ℕ} (K : ℕ) (hK : K ≤ n) (v : ℕ → Fin n → EReal) (hv : ∀ k, Erased (v k) (v (k + 1))) :
    (List.range K).map (fun k => rowMax (v k)) = topList K (List.ofFn (v 0)) := by
  induction K generalizing v with
  | zero => rfl
  | succ K ih =>
    have h := ih (by omega) (fun k => v (k + 1)) fun k => hv (k + 1)
    obtain ⟨p, hp, hw⟩ := hv 0
    have hperm := List.perm_cons_erase (List.mem_finRange p)
    have hr : ((List.finRange n).erase p).length = n - 1 := by
      rw [List.length_erase_of_mem (List.mem_finRange p), List.length_finRange]
    have h0 : (List.ofFn (v 0)).Perm (rowMax (v 0) :: ((List.finRange n).erase p).map (v 0)) := by
      rw [List.ofFn_eq_map, ← hp]; exact hperm.map (v 0)
    have h1 : (List.ofFn (v 1)).Perm (⊥ :: ((List.finRange n).erase p).map (v 0)) := by
      have e : ((List.finRange n).erase p).map (v 1) = ((List.finRange n).erase p).map (v 0) :=
        List.map_congr_left fun q hq => by
          rw [hw, Function.update_of_ne ((List.nodup_finRange n).mem_erase_iff.mp hq).1]
      have := hperm.map (v 1)
      rw [List.ofFn_eq_map, ← e]
      rwa [List.map_cons, hw, Function.update_self, ← hw] at this
    rw [List.range_succ_eq_map, List.map_cons, List.map_map, topList_perm h0,
      topList_cons_max (fun a ha => by
        obtain ⟨i, -, rfl⟩ := List.mem_map.mp ha; exact le_rowMax _ i) (by rw [List.length_map]; omega),
      ← topList_cons_least (m := ⊥) (fun _ _ => bot_le) (by rw [List.length_map]; omega), ← topList_perm h1]
    exact congrArg _ h

end Cert.TopRow
-- ==== Proof.Round.lean ====
/- One round of the kernel's selection on the rows of an array of 256 rows: the column of the rows' maxima, and the array
   with one place that holds its row's maximum overwritten by −∞. -/
module

public import proofs.«01_k».proof.Proof.TopRow
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

namespace Cert.TopRow

open Idealize.ShloMosaic Idealize.ShloMosaic.ValueIdx

/-- An array of 256 rows of `n`. -/
abbrev Rows (n : ℕ) : Shape := ⟨2, ![256, n]⟩
/-- A column: one entry for each of 256 rows, as a vector. -/
abbrev Col : Shape := ⟨1, ![256]⟩

/-- What the operations of a round ask of the shapes. -/
structure Fits (n : ℕ) : Prop where
  red : (Rows n).Reduces [1] Col
  cast : Col.ShapeCasts (Rows 1)
  bcast : (Rows 1).Broadcasts (Rows n)
  iota : (Rows n).Iotas .tc 32 [1]

section Ops
variable {F : FTy → Type} [FloatOps F] {n : ℕ} (h : Fits n)

/-- The rows' maxima, as a column, in the kernel's operations. -/
def maxCol (v : FVec F (Rows n) .f32) : FVec F (Rows 1) .f32 :=
  shapeCast (Rows 1) (multiReduction .maximumf [1] Col v 0xFF800000#32 h.red (.inl rfl) rfl) h.cast

/-- The first place of each row that holds the row's maximum, as a column, in the kernel's operations. -/
def argCol (v : FVec F (Rows n) .f32) : IVec (Rows 1) 32 :=
  shapeCast (Rows 1) (multiReductionI .minsi [1] Col
    (select (cmpf .oeq v (broadcastTo (Rows n) (maxCol h v) h.bcast)) (Idealize.ShloMosaic.iota .tc (Rows n) 32 [1] h.iota)
      (broadcast (Rows n) (BitVec.ofNat 32 n))) 2147483647#32 h.red rfl) h.cast

/-- The array with that place of each row overwritten by −∞, in the kernel's operations. -/
def erase (v : FVec F (Rows n) .f32) : FVec F (Rows n) .f32 :=
  select (cmpi .eq (Idealize.ShloMosaic.iota .tc (Rows n) 32 [1] h.iota) (broadcastTo (Rows n) (argCol h v) h.bcast))
    (broadcast (Rows n) (Scalar.ofBits .f32 0xFF800000#32)) v

/-- The array after `k` rounds. -/
def erased (v : FVec F (Rows n) .f32) : ℕ → FVec F (Rows n) .f32
  | 0 => v
  | k + 1 => erase h (erased v k)

/-- One round more. -/
theorem erased_succ (v : FVec F (Rows n) .f32) (k : ℕ) : erased h v (k + 1) = erase h (erased h v k) := rfl

end Ops

/-- Row `r` of an array. -/
def row {α : Type} {n : ℕ} (v : (Rows n).Idx → α) (r : Fin 256) : Fin n → α := fun k => v (ix2 r k)

/-- The minimum of words, from a word, is the word among them that none of them and not the start is below. -/
theorem fold_minsi {ι : Type} [DecidableEq ι] (s : Finset ι) (f : ι → BitVec 32) (z x : BitVec 32) (hx : ∃ p ∈ s, f p = x)
    (hle : ∀ k ∈ s, x.toInt ≤ (f k).toInt) (hz : x.toInt ≤ z.toInt) : s.fold IntOp.minsi z f = x := by
  have hm : ∀ a b : BitVec 32, (IntOp.minsi a b).toInt = min a.toInt b.toInt := fun a b => by
    unfold IntOp.minsi
    by_cases hab : a.toInt < b.toInt
    · rw [if_pos (BitVec.slt_iff_toInt_lt.mpr hab), min_eq_left hab.le]
    · rw [if_neg (fun e => hab (BitVec.slt_iff_toInt_lt.mp e)), min_eq_right (not_lt.mp hab)]
  apply BitVec.eq_of_toInt_eq
  have e : s.fold min z.toInt (fun k => (f k).toInt) = (s.fold IntOp.minsi z f).toInt :=
    Finset.fold_hom (op := IntOp.minsi) (op' := min) (m := BitVec.toInt) hm
  rw [← e]
  obtain ⟨p, hp, rfl⟩ := hx
  exact le_antisymm (Finset.fold_min_le _ |>.mpr (.inr ⟨p, hp, le_rfl⟩)) (Finset.le_fold_min _ |>.mpr ⟨hz, hle⟩)

/-- A place number of a row, as a word read signed, is the number. -/
theorem toInt_place {n k : ℕ} (hn : n < 2 ^ 31) (hk : k ≤ n) : (BitVec.ofNat 32 k).toInt = k := by
  rw [BitVec.toInt_ofNat', Int.bmod_eq_of_le] <;> omega

/-- The bit pattern of −∞ means −∞. -/
theorem ofBits_negInf : (FloatOps.ofBits .f32 0xFF800000#32 : Ideal .f32) = (⊥ : EReal) := by
  show Ideal.ofBits .f32 0xFF800000#32 = ⊥
  simp [Ideal.ofBits, Ideal.ieee]

variable {n : ℕ} (h : Fits n) (v : FVec Ideal (Rows n) .f32) (r : Fin 256)

/-- The place of a row a reduction along the row reads. -/
theorem lift_eq (k : Fin n) : h.red.lift (ix1 r) k = (ix2 r k : (Rows n).Idx) := by
  rw [eq_ix2 (h.red.lift (ix1 r) k)]; rfl

/-- The column of maxima holds each row's greatest entry. -/
theorem maxCol_apply (c : Fin 1) : maxCol h v (ix2 r c) = rowMax (row v r) := by
  unfold maxCol
  refine (shapeCast_a_a1_apply _ h.cast r c).trans
    ((Ideal.multiReduction_maximumf_single (a := (1 : Fin (Rows n).rank)) v _ h.red (.inl rfl) rfl (ix1 r)).trans ?_)
  exact congrArg₂ (fun z f => Finset.univ.fold max z f) ofBits_negInf (funext fun k => congrArg v (lift_eq h r k))

/-- A column spread along the rows holds each row's entry. -/
theorem spread_apply {α : Type} (x : (Rows 1).Idx → α) (k : Fin n) : broadcastTo (Rows n) x h.bcast (ix2 r k) = x (ix2 r 0) :=
  broadcastTo_apply x h.bcast _ _ fun a => by
    match a with
    | ⟨0, _⟩ => rfl
    | ⟨1, _⟩ => rfl

/-- The place numbers hold each place's number. -/
theorem iota_row (k : Fin n) :
    Idealize.ShloMosaic.iota .tc (Rows n) 32 [1] h.iota (ix2 r k) = BitVec.ofNat 32 k.val :=
  congrArg (BitVec.ofNat 32) (by show 0 * n + k.val = k.val; omega)

/-- The column of first places holds the place of a row's greatest entry. -/
theorem argCol_apply [NeZero n] (hn : n < 2 ^ 31) (c : Fin 1) :
    ∃ p : Fin n, row v r p = rowMax (row v r) ∧ argCol h v (ix2 r c) = BitVec.ofNat 32 p.val := by
  have hw : ∀ k : Fin n, select (cmpf .oeq v (broadcastTo (Rows n) (maxCol h v) h.bcast))
      (Idealize.ShloMosaic.iota .tc (Rows n) 32 [1] h.iota) (broadcast (Rows n) (BitVec.ofNat 32 n)) (ix2 r k)
        = if row v r k = rowMax (row v r) then BitVec.ofNat 32 k.val else BitVec.ofNat 32 n := fun k => by
    rw [select_apply, cmpf_apply, spread_apply h r, maxCol_apply, iota_row h, broadcast_apply, Ideal.cmpf_def]
    show Scalar.select (BitVec.ofBool (decide (row v r k = rowMax (row v r)))) _ _ = _
    by_cases e : row v r k = rowMax (row v r)
    · rw [if_pos e, decide_eq_true e]; rfl
    · rw [if_neg e, decide_eq_false e]; rfl
  have hex : ∃ m : ℕ, ∃ hm : m < n, row v r ⟨m, hm⟩ = rowMax (row v r) := by
    obtain ⟨i, hi⟩ := exists_rowMax (row v r); exact ⟨i.val, i.isLt, hi⟩
  obtain ⟨hp, hpm⟩ := Nat.find_spec hex
  refine ⟨⟨Nat.find hex, hp⟩, hpm, ?_⟩
  refine (shapeCast_a_a1_apply _ h.cast r c).trans
    ((multiReductionI_eq_fold .minsi _ _ h.red rfl (ix1 r)).trans
      ((Shape.Reduces.fold_filter_drop_single (a := (1 : Fin (Rows n).rank)) h.red IntOp.minsi _ _ (ix1 r)).trans ?_))
  have e := fun k : Fin n => (congrArg (select (cmpf .oeq v (broadcastTo (Rows n) (maxCol h v) h.bcast))
      (Idealize.ShloMosaic.iota .tc (Rows n) 32 [1] h.iota) (broadcast (Rows n) (BitVec.ofNat 32 n))) (lift_eq h r k)).trans (hw k)
  have hi : (BitVec.ofNat 32 (Nat.find hex)).toInt = (Nat.find hex : ℤ) := toInt_place hn hp.le
  refine fold_minsi _ _ _ _ ⟨⟨Nat.find hex, hp⟩, Finset.mem_univ _, (e _).trans (if_pos hpm)⟩ (fun k _ => ?_) ?_
  · refine le_of_le_of_eq ?_ (congrArg BitVec.toInt (e k)).symm
    rw [hi]
    by_cases hk : row v r k = rowMax (row v r)
    · rw [if_pos hk, toInt_place hn k.isLt.le]
      exact_mod_cast Nat.find_min' hex ⟨k.isLt, hk⟩
    · rw [if_neg hk, toInt_place hn le_rfl]
      exact_mod_cast hp.le
  · rw [hi]
    show (Nat.find hex : ℤ) ≤ 2147483647
    omega

/-- A round overwrites one place of each row, one that holds the row's greatest entry, by −∞. -/
theorem erase_row [NeZero n] (hn : n < 2 ^ 31) : Erased (row v r) (row (erase h v) r) := by
  obtain ⟨p, hp, ha⟩ := argCol_apply h v r hn 0
  refine ⟨p, hp, funext fun k => ?_⟩
  show erase h v (ix2 r k) = _
  unfold erase
  rw [select_apply, broadcast_apply]
  show Scalar.select (IntOp.cmpi .eq (Idealize.ShloMosaic.iota .tc (Rows n) 32 [1] h.iota (ix2 r k))
    (broadcastTo (Rows n) (argCol h v) h.bcast (ix2 r k))) (FloatOps.ofBits .f32 0xFF800000#32 : Ideal .f32) (row v r k) = _
  rw [spread_apply h r, ha, iota_row h, ofBits_negInf]
  have hkp := k.isLt
  have hpp := p.isLt
  by_cases e : k = p
  · subst e
    rw [Function.update_self, show IntOp.cmpi .eq (BitVec.ofNat 32 k.val) (BitVec.ofNat 32 k.val) = 1#1 by simp [IntOp.cmpi]]
    rfl
  · have hne : BitVec.ofNat 32 k.val ≠ BitVec.ofNat 32 p.val := fun e' => e (Fin.ext (by
      have := congrArg BitVec.toNat e'
      rwa [BitVec.toNat_ofNat, BitVec.toNat_ofNat, Nat.mod_eq_of_lt (by omega), Nat.mod_eq_of_lt (by omega)] at this))
    rw [Function.update_of_ne e, show IntOp.cmpi .eq (BitVec.ofNat 32 k.val) (BitVec.ofNat 32 p.val) = 0#1 by
      show BitVec.ofBool (BitVec.ofNat 32 k.val == BitVec.ofNat 32 p.val) = 0#1
      rw [beq_false_of_ne hne]; rfl]
    rfl

/-- The columns of maxima of the first eight rounds hold each row's eight greatest entries, greatest first. -/
theorem maxCol_rounds [NeZero n] (hn : n < 2 ^ 31) (h8 : 8 ≤ n) :
    List.ofFn (fun k : Fin 8 => maxCol h (erased h v k.val) (ix2 r 0)) = Idealize.ShloMosaic.SortNet.topList 8 (List.ofFn (row v r)) := by
  have := maxima_eq_topList 8 h8 (fun k => row (erased h v k) r) fun k => by
    exact erase_row h (erased h v k) r hn
  refine Eq.trans ?_ this
  rw [List.ofFn_eq_map]
  exact (List.map_congr_left fun k _ => maxCol_apply h _ r 0).trans (by rfl)

end Cert.TopRow
-- ==== Proof.KernelValue.lean ====
/- What the kernel's two selections compute at the ideal values: each row's eight greatest entries, of a device's block and
   of the sixteen gathered slots. -/
module

public import proofs.«01_k».proof.Proof.Round
public import proofs.«01_k».proof.Proof.Body

@[expose] public section

noncomputable section

namespace Cert.Exchange

open Cert.KernelIdeal Cert.KernelIdeal.Gen Cert.TopRow
open Idealize.ShloMosaic Idealize.ShloMosaic.ValueIdx
open Idealize.ShloMosaic.SortNet (topList)

/-- The first selection's shapes. -/
theorem fits_block : Fits 1024 :=
  ⟨reduces_S256x1024_S256, shapeCasts_S256_S256x1, broadcasts_S256x1_S256x1024, iota_S256x1024_d1_w32⟩

/-- The second selection's shapes. -/
theorem fits_slots : Fits 128 :=
  ⟨reduces_S256x128_S256, shapeCasts_S256_S256x1, broadcasts_S256x1_S256x128, iota_S256x128_d1_w32⟩

/-- Eight columns put side by side. -/
def eightCols {α : Type} (f : Fin 8 → S256x1.Idx → α) : S256x8.Idx → α :=
  concatenate S256x8 1 (List.ofFn fun k => (⟨S256x1, f k⟩ : (s : Shape) × (s.Idx → α)))
    concatenates_S256x1_S256x1_S256x1_S256x1_S256x1_S256x1_S256x1_S256x1_S256x8_d1

/-- The same of eight columns listed. -/
theorem eightCols_eight {α : Type} (a₀ a₁ a₂ a₃ a₄ a₅ a₆ a₇ : S256x1.Idx → α) :
    eightCols ![a₀, a₁, a₂, a₃, a₄, a₅, a₆, a₇]
      = concatenate S256x8 1 [⟨S256x1, a₀⟩, ⟨S256x1, a₁⟩, ⟨S256x1, a₂⟩, ⟨S256x1, a₃⟩, ⟨S256x1, a₄⟩, ⟨S256x1, a₅⟩, ⟨S256x1, a₆⟩,
          ⟨S256x1, a₇⟩] concatenates_S256x1_S256x1_S256x1_S256x1_S256x1_S256x1_S256x1_S256x1_S256x8_d1 := rfl

/-- Sixteen arrays of eight columns put side by side. -/
def sixteenSlots {α : Type} (f : Fin 16 → S256x8.Idx → α) : S256x128.Idx → α :=
  concatenate S256x128 1 (List.ofFn fun k => (⟨S256x8, f k⟩ : (s : Shape) × (s.Idx → α)))
    concatenates_S256x8_S256x8_S256x8_S256x8_S256x8_S256x8_S256x8_S256x8_S256x8_S256x8_S256x8_S256x8_S256x8_S256x8_S256x8_S256x8_S256x128_d1

/-- Column `j` of eight columns side by side is the `j`-th. -/
theorem eightCols_apply {α : Type} (f : Fin 8 → S256x1.Idx → α) (r : Fin 256) (j : Fin 8) :
    eightCols f (ix2 r j) = f j (ix2 r 0) := by
  refine Idealize.ShloMosaic.concatenate_ofFn_unit_apply (t := S256x8) (s₁ := S256x1) 1 f _ rfl rfl (ix2 r j) j rfl (ix2 r 0) fun b hb => ?_
  match b with
  | ⟨0, _⟩ => rfl
  | ⟨1, _⟩ => exact absurd rfl hb

/-- Column `8 k + j` of sixteen arrays side by side is column `j` of the `k`-th. -/
theorem sixteenSlots_apply {α : Type} (f : Fin 16 → S256x8.Idx → α) (r : Fin 256) (c : Fin 128) :
    sixteenSlots f (ix2 r c) = f ⟨c.val / 8, by omega⟩ (ix2 r ⟨c.val % 8, by omega⟩) := by
  refine Idealize.ShloMosaic.concatenate_ofFn_apply (t := S256x128) (s₁ := S256x8) 1 f _ rfl 8 rfl (ix2 r c) ⟨c.val / 8, by omega⟩ rfl
    (ix2 r ⟨c.val % 8, by omega⟩) rfl fun b hb => ?_
  match b with
  | ⟨0, _⟩ => rfl
  | ⟨1, _⟩ => exact absurd rfl hb

section Ops
variable {F : FTy → Type} [FloatOps F]

/-- The place numbers of a block. -/
abbrev places : IVec S256x1024 32 := iota .tc S256x1024 32 [1] iota_S256x1024_d1_w32

/-- The first round. -/
theorem round_one (x : FVec F S256x1024 .f32) : k0_pay6 (k0_pay2 x) (k0_pay4 x) k0_pay5 = erase fits_block (k0_pay2 x) := rfl

section Rounds
variable (v : FVec F S256x1024 .f32) (b : IVec S256x1024 1) (c : FVec F S256x1024 .f32)

/-- The second round. -/
theorem round_two : k0_pay8 v places b c = erase fits_block (k0_pay6 v b c) := rfl
/-- The third round. -/
theorem round_three : k0_pay10 v places b c = erase fits_block (k0_pay8 v places b c) := rfl
/-- The fourth round. -/
theorem round_four : k0_pay12 v places b c = erase fits_block (k0_pay10 v places b c) := rfl
/-- The fifth round's columns of places. -/
theorem round_five : k0_pay14 v places b c = argCol fits_block (k0_pay12 v places b c) := rfl

/-- The remaining rounds, from the array the first four leave and its columns of maxima and places. -/
theorem round_rest (a₀ a₁ a₂ a₃ : FVec F S256x1 .f32) :
    k0_pay15 places a₀ a₁ a₂ a₃ v (maxCol fits_block v) (argCol fits_block v)
      = shapeCast S1x256x8 (eightCols ![a₀, a₁, a₂, a₃, maxCol fits_block v, maxCol fits_block (erase fits_block v),
          maxCol fits_block (erase fits_block (erase fits_block v)),
          maxCol fits_block (erase fits_block (erase fits_block (erase fits_block v)))]) shapeCasts_S256x8_S1x256x8 := by
  unfold k0_pay15
  extract_lets v93 v94 cst v95 v96 v97 v98 v99 v100 v101 v102 v103 v104 v105 v106 v108 v109 v110 v111 v112 v114 v115 v116 v117 v118 v120
    v121 v122 v123 v127
  have h96 : v96 = erase fits_block v := rfl
  have h98 : v98 = maxCol fits_block v96 := rfl
  have h108 : v108 = erase fits_block v96 := rfl
  have h110 : v110 = maxCol fits_block v108 := rfl
  have h120 : v120 = erase fits_block v108 := rfl
  have h122 : v122 = maxCol fits_block v120 := rfl
  rw [← h96, ← h108, ← h120, ← h98, ← h110, ← h122, eightCols_eight]

end Rounds

/-- Eight values listed, as a function. -/
theorem eight_eq {β : Type} (g : ℕ → β) : ![g 0, g 1, g 2, g 3, g 4, g 5, g 6, g 7] = fun k : Fin 8 => g k.val := by
  funext k
  fin_cases k <;> rfl

/-- What a device computes of its block is the columns of maxima of the first eight rounds. -/
theorem localTop_eq (x : FVec F S256x1024 .f32) :
    localTop x = shapeCast S1x256x8 (eightCols fun k => maxCol fits_block (erased fits_block (k0_pay2 x) k.val))
      shapeCasts_S256x8_S1x256x8 := by
  have e1 : k0_pay6 (k0_pay2 x) (k0_pay4 x) k0_pay5 = erased fits_block (k0_pay2 x) 1 := round_one x
  have e2 : k0_pay8 (k0_pay2 x) places (k0_pay4 x) k0_pay5 = erased fits_block (k0_pay2 x) 2 := by rw [round_two, e1, ← erased_succ]
  have e3 : k0_pay10 (k0_pay2 x) places (k0_pay4 x) k0_pay5 = erased fits_block (k0_pay2 x) 3 := by rw [round_three, e2, ← erased_succ]
  have e4 : k0_pay12 (k0_pay2 x) places (k0_pay4 x) k0_pay5 = erased fits_block (k0_pay2 x) 4 := by rw [round_four, e3, ← erased_succ]
  have e : localTop x = k0_pay15 places (maxCol fits_block (k0_pay2 x)) (maxCol fits_block (k0_pay6 (k0_pay2 x) (k0_pay4 x) k0_pay5))
      (maxCol fits_block (k0_pay8 (k0_pay2 x) places (k0_pay4 x) k0_pay5))
      (maxCol fits_block (k0_pay10 (k0_pay2 x) places (k0_pay4 x) k0_pay5)) (k0_pay12 (k0_pay2 x) places (k0_pay4 x) k0_pay5)
      (maxCol fits_block (k0_pay12 (k0_pay2 x) places (k0_pay4 x) k0_pay5)) (k0_pay14 (k0_pay2 x) places (k0_pay4 x) k0_pay5) := rfl
  rw [e, round_five, e1, e2, e3, e4, round_rest, ← erased_succ, ← erased_succ, ← erased_succ]
  exact congrArg (fun f => shapeCast S1x256x8 (eightCols f) shapeCasts_S256x8_S1x256x8)
    (eight_eq fun k => maxCol fits_block (erased fits_block (k0_pay2 x) k))

/-- The sixteen slots put side by side. -/
def slots (y : Dev nD → FVec F S1x256x8 .f32) : FVec F S256x128 .f32 :=
  sixteenSlots fun i => shapeCast S256x8 (y i) shapeCasts_S1x256x8_S256x8

/-- What the last phase computes of the slots is the columns of maxima of the first eight rounds. -/
theorem finalTop_eq (y : Dev nD → FVec F S1x256x8 .f32) :
    finalTop y = eightCols fun k => maxCol fits_slots (erased fits_slots (slots y) k.val) := by
  set_option maxRecDepth 65536 in
  rfl

end Ops

/-! ## At the ideal values -/

/-- Row `r`, column `j` of what a device computes of its block: the `j`-th of row `r`'s eight greatest entries. -/
theorem localTop_row (x : FVec Ideal S256x1024 .f32) (r : Fin 256) :
    List.ofFn (fun j : Fin 8 => localTop x (ix3 0 r j)) = topList 8 (List.ofFn fun k : Fin 1024 => (x (ix2 r k) : EReal)) := by
  have hx : k0_pay2 x = x := funext fun i => shapeCast_apply x _ i i rfl
  refine Eq.trans ?_ (maxCol_rounds fits_block x r (by norm_num) (by norm_num))
  rw [localTop_eq, hx]
  refine congrArg List.ofFn (funext fun j => ?_)
  exact (shapeCast_ab_1ab_apply _ _ 0 r j).trans (eightCols_apply _ r j)

/-- Row `r`, column `j` of what the last phase computes: the `j`-th of the eight greatest of the slots' rows `r` together. -/
theorem finalTop_row (y : Dev nD → FVec Ideal S1x256x8 .f32) (r : Fin 256) :
    List.ofFn (fun j : Fin 8 => finalTop y (ix2 r j))
      = topList 8 (List.ofFn fun i : Fin 16 => List.ofFn fun j : Fin 8 => (y i (ix3 0 r j) : EReal)).flatten := by
  have e : List.ofFn (row (slots y) r) = (List.ofFn fun i : Fin 16 => List.ofFn fun j : Fin 8 => (y i (ix3 0 r j) : EReal)).flatten := by
    refine (List.ofFn_mul (m := 16) (n := 8) (row (slots y) r)).trans (congrArg List.flatten (congrArg List.ofFn (funext fun i =>
      congrArg List.ofFn (funext fun j => ?_))))
    refine ((sixteenSlots_apply _ r _).trans (shapeCast_1ab_ab_apply _ _ r _)).trans ?_
    have hi : (⟨(i.val * 8 + j.val) / 8, by omega⟩ : Fin 16) = i := Fin.ext (by show (i.val * 8 + j.val) / 8 = i.val; omega)
    have hj : (⟨(i.val * 8 + j.val) % 8, by omega⟩ : Fin 8) = j := Fin.ext (by show (i.val * 8 + j.val) % 8 = j.val; omega)
    show y ⟨(i.val * 8 + j.val) / 8, _⟩ (ix3 0 r ⟨(i.val * 8 + j.val) % 8, _⟩) = y i (ix3 0 r j)
    rw [hj]
    exact congrArg (fun i => y i (ix3 0 r j)) hi
  rw [← e, ← maxCol_rounds fits_slots (slots y) r (by norm_num) (by norm_num), finalTop_eq]
  exact congrArg List.ofFn (funext fun j => eightCols_apply _ r j)

/-- The eight greatest of a row cut into sixteen blocks, from what the devices compute of the blocks. -/
theorem top_row (X : Fin 256 → Fin 16384 → EReal) (x : Dev nD → FVec Ideal S256x1024 .f32)
    (hx : ∀ i r (k : Fin 1024), x i (ix2 r k) = X r ⟨i.val * 1024 + k.val, by have : i.val < 16 := i.isLt; omega⟩) (r : Fin 256) :
    List.ofFn (fun j : Fin 8 => finalTop (fun i => localTop (x i)) (ix2 r j)) = topList 8 (List.ofFn (X r)) := by
  have e : List.ofFn (X r) = (List.ofFn fun i : Fin 16 => List.ofFn fun k : Fin 1024 => (x i (ix2 r k) : EReal)).flatten := by
    refine (List.ofFn_mul (m := 16) (n := 1024) (X r)).trans ?_
    exact congrArg List.flatten (congrArg List.ofFn (funext fun i => congrArg List.ofFn (funext fun k => (hx i r k).symm)))
  rw [finalTop_row, e]
  refine Eq.trans ?_ (topList_flatten 8 _)
  rw [List.map_ofFn]
  have hl := fun i => localTop_row (x i) r
  simp only [hl]
  rfl

end Cert.Exchange
-- ==== Proof.RefValue.lean ====
/- What the reference computes at the ideal values: each row's eight greatest entries. It sorts the negated row carrying the
   places, keeps the first eight places and reads the row there. -/
module

public import proofs.«01_k».proof.Proof.TopRow
public import proofs.«01_k».proof.Proof.Gen.ReferenceIdeal.Run
public import Idealize.ShloMosaic.Lib.SortFacts
public import Idealize.ShloMosaic.Lib.ReduceAll
public import Idealize.ShloMosaic.Lib.ValueIdx
public import Idealize.ShloMosaic.Lib.Pipeline.Value

@[expose] public section

noncomputable section

namespace Cert.Sorted

open Cert.ReferenceIdeal Cert.ReferenceIdeal.Gen Cert.TopRow
open Idealize.ShloMosaic Idealize.ShloMosaic.TcCoe Idealize.SL.Sem Idealize.ShloMosaic.ValueIdx
open Idealize.ShloMosaic.SortNet (topList)

/-! ## The operations -/

section Ops
variable {F : FTy → Type} [FloatOps F]

/-- The first eight places of each row in the order of the negated entries. -/
def firstPlaces (x : FVec F S256x16384 .f32) : IVec S256x8 32 :=
  extractStridedSlice S256x8 ![0, 0]
    ((Host.sort2 S256x16384 1 comparator_f32_i32_d1 (Host.negf x) (iotaInDim S256x16384 32 1)).2) slices_S256x16384_S256x8_0_0

/-- Places with the negative ones counted from the row's end, as start indices. -/
def wrapped (p : IVec S256x8 32) : IVec S256x8x1 32 :=
  shapeCast _ (select (cmpi .slt p (broadcastInDim S256x8 ![] bcast_S_S256x8 (constantI S_ 32 0#32)))
    (addi p (broadcastInDim S256x8 ![] bcast_S_S256x8 (constantI S_ 32 16384#32))) p) shapeCasts_S256x8_S256x8x1

/-- Which start indices lie in a row. -/
def inRow (q : IVec S256x8x1 32) : IVec S256x8x1 1 :=
  andi (cmpi .sge q (broadcastInDim S256x8x1 ![] bcast_S_S256x8x1 (constantI S_ 32 0#32)))
    (cmpi .sle q (broadcastInDim S256x8x1 ![0, 1, 2] bcast_S1x1x1_S256x8x1_0_1_2
      (broadcastInDim S1x1x1 ![2] bcast_S1_S1x1x1_2 (constantI S1 32 16383#32))))

/-- The rows read at start indices, a filler standing where a start index lies outside its row. -/
def taken (x : FVec F S256x16384 .f32) (q : IVec S256x8x1 32) : FVec F S256x8 .f32 :=
  select (Host.reduce IntOp.andi (inRow q) (constantI S_ 1 1#1) reducesTo_S256x8x1_S256x8_d2 h_S_)
    (Host.gather gather_S256x16384_S256x8x1_S256x8_n_1_0_0_1_2_11 x q)
    (broadcastInDim S256x8 ![] bcast_S_S256x8 (constant S_ .f32 0x7FC00000#32))

/-- The reference's result, of its argument. -/
def result (x : FVec F S256x16384 .f32) : FVec F S256x8 .f32 := taken x (wrapped (firstPlaces x))

/-- The reference's run: its result buffer ends holding the result, its argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = result (m ((c.tc : Thread nD τ).loc main_arg0))
        ∧ r.2.mem ((c.tc : Thread nD τ).loc main_arg0) = m ((c.tc : Thread nD τ).loc main_arg0) :=
  Cert.ReferenceIdeal.Value.run m ρ

end Ops

/-! ## The order -/

/-- The sort's comparison, at the ideal values, is whether the first key is the smaller. -/
theorem before_iff (l r : Ideal .f32 × BitVec 32) :
    comparator_f32_i32_d1 (F := Ideal) l r = BitVec.ofBool (decide ((l.1 : EReal) < r.1)) := by
  have key : ∀ a : Ideal .f32, Scalar.select (FloatOps.cmpf .une a a) (FloatOps.ofBits .f32 0x7FC00000#32 : Ideal .f32)
      (Scalar.select (FloatOps.cmpf .oeq a (FloatOps.ofBits .f32 0x00000000#32)) (FloatOps.ofBits .f32 0x00000000#32) a) = a := fun a => by
    have h1 : (FloatOps.cmpf .une a a : BitVec 1) = 0#1 := by
      show BitVec.ofBool (decide (a ≠ a)) = 0#1
      rw [decide_eq_false (fun h => h rfl)]; rfl
    rw [h1, select_zero]
    by_cases e : (a : EReal) = (FloatOps.ofBits .f32 0x00000000#32 : Ideal .f32)
    · have h2 : (FloatOps.cmpf .oeq a (FloatOps.ofBits .f32 0x00000000#32) : BitVec 1) = 1#1 := by
        show BitVec.ofBool (decide ((a : EReal) = (FloatOps.ofBits .f32 0x00000000#32 : Ideal .f32))) = 1#1
        rw [decide_eq_true e]; rfl
      rw [h2, select_one]; exact e.symm
    · have h2 : (FloatOps.cmpf .oeq a (FloatOps.ofBits .f32 0x00000000#32) : BitVec 1) = 0#1 := by
        show BitVec.ofBool (decide ((a : EReal) = (FloatOps.ofBits .f32 0x00000000#32 : Ideal .f32))) = 0#1
        rw [decide_eq_false e]; rfl
      rw [h2, select_zero]
  unfold comparator_f32_i32_d1
  dsimp only
  rw [key, key, Ideal.cmpfTotal_def]
  rfl

/-- The place the sort puts at place `k` of row `r`. -/
def source (x : FVec Ideal S256x16384 .f32) (r : Fin 256) (k : Fin 16384) : Fin 16384 :=
  sortedFrom (fun a b => comparator_f32_i32_d1 (F := Ideal) (Host.negf x (ix2 r a), BitVec.ofNat 32 a.val)
    (Host.negf x (ix2 r b), BitVec.ofNat 32 b.val) == 1#1) k

variable (x : FVec Ideal S256x16384 .f32) (r : Fin 256)

/-- Each place is put once. -/
theorem source_bijective : Function.Bijective (source x r) := ⟨sortedFrom_injective _, sortedFrom_surjective _⟩

/-- The row read along the sort descends. -/
theorem source_descends (i j : Fin 16384) (hij : i < j) : (x (ix2 r (source x r j)) : EReal) ≤ x (ix2 r (source x r i)) := by
  have hR : ∀ a b : Fin 16384, (comparator_f32_i32_d1 (F := Ideal) (Host.negf x (ix2 r a), BitVec.ofNat 32 a.val)
      (Host.negf x (ix2 r b), BitVec.ofNat 32 b.val) == 1#1) = decide ((x (ix2 r b) : EReal) < x (ix2 r a)) := fun a b => by
    rw [before_iff]
    have e : ((Host.negf x (ix2 r a) : EReal) < Host.negf x (ix2 r b)) ↔ ((x (ix2 r b) : EReal) < x (ix2 r a)) :=
      EReal.neg_lt_neg_iff
    rw [decide_eq_decide.mpr e]
    cases decide ((x (ix2 r b) : EReal) < x (ix2 r a)) <;> rfl
  have h := sortedFrom_noInversion (fun a b => decide ((x (ix2 r b) : EReal) < x (ix2 r a)))
    (fun a b => comparator_f32_i32_d1 (F := Ideal) (Host.negf x (ix2 r a), BitVec.ofNat 32 a.val)
      (Host.negf x (ix2 r b), BitVec.ofNat 32 b.val) == 1#1)
    (fun a b hab => decide_eq_false (of_decide_eq_true ((hR a b).symm.trans hab)).asymm) (fun a b hab => (hR a b).trans hab)
    (fun a b c hab hbc => decide_eq_false (not_lt.mpr
      ((not_lt.mp (of_decide_eq_false hab)).trans (not_lt.mp (of_decide_eq_false hbc))))) i j hij
  exact not_lt.mp (of_decide_eq_false h)

/-! ## The places -/

/-- A sort of two arrays along their rows reads, in each row, both at the place the first one's order puts there. -/
theorem sort2_row {α β : Type} {m n : ℕ} (cmp : α × β → α × β → BitVec 1) (u : (⟨2, ![m, n]⟩ : Shape).Idx → α)
    (w : (⟨2, ![m, n]⟩ : Shape).Idx → β) (r : Fin m) (k : Fin n) :
    (Host.sort2 ⟨2, ![m, n]⟩ 1 cmp u w).2 (ix2 r k)
      = w (ix2 r (sortedFrom (fun a b => cmp (u (ix2 r a), w (ix2 r a)) (u (ix2 r b), w (ix2 r b)) == 1#1) k)) := by
  have al : ∀ a : Fin n, (ix2 r k : (⟨2, ![m, n]⟩ : Shape).Idx).along (1 : Fin 2) a = ix2 r a := fun a => by
    funext b
    match b with
    | ⟨0, _⟩ => rfl
    | ⟨1, _⟩ => rfl
  unfold Host.sort2
  rw [dif_pos (show 1 < (⟨2, ![m, n]⟩ : Shape).rank from Nat.one_lt_two)]
  exact (congrArg w (al _)).trans (congrArg (fun f : Fin n → (⟨2, ![m, n]⟩ : Shape).Idx =>
    w (ix2 r (sortedFrom (fun a b => cmp (u (f a), w (f a)) (u (f b), w (f b)) == 1#1) k))) (funext al))

/-- Place `k` of row `r` of the sorted places holds the number of the place put there. -/
theorem sorted_places (k : Fin 16384) :
    (Host.sort2 S256x16384 1 (comparator_f32_i32_d1 (F := Ideal)) (Host.negf x) (iotaInDim S256x16384 32 1)).2 (ix2 r k)
      = BitVec.ofNat 32 (source x r k).val :=
  sort2_row _ (Host.negf x) (iotaInDim S256x16384 32 1) r k

/-- The first eight of them. -/
theorem firstPlaces_apply (j : Fin 8) :
    firstPlaces x (ix2 r j) = BitVec.ofNat 32 (source x r (j.castLE (by decide))).val := by
  refine (extractStridedSlice_apply _ _ slices_S256x16384_S256x8_0_0 (ix2 r j) (ix2 r (j.castLE (by decide))) fun a => ?_).trans
    (sorted_places x r _)
  match a with
  | ⟨0, _⟩ => exact (Nat.zero_add _).symm
  | ⟨1, _⟩ => exact (Nat.zero_add _).symm

/-- A place of a row, as a word read signed, is its number. -/
theorem toInt_of_place (p : Fin 16384) : (BitVec.ofNat 32 p.val).toInt = (p.val : ℤ) := by
  have := p.isLt
  rw [BitVec.toInt_ofNat', Int.bmod_eq_of_le] <;> omega

/-- A place in a row is not wrapped. -/
theorem wrapped_apply (p : IVec S256x8 32) (r : Fin 256) (j : Fin 8) (k : Fin 16384) (hp : p (ix2 r j) = BitVec.ofNat 32 k.val) :
    wrapped p (ix3 r j 0) = BitVec.ofNat 32 k.val := by
  unfold wrapped
  refine (shapeCast_apply _ shapeCasts_S256x8_S256x8x1 (ix3 r j 0) (ix2 r j) ?_).trans ?_
  · rw [Shape.rowMajor_val_two, Shape.rowMajor_val_three]
    show r.val * 8 + j.val = (r.val * 8 + j.val) * 1 + 0
    omega
  · rw [select_apply]
    show Scalar.select (BitVec.ofBool (decide ((p (ix2 r j)).toInt < (0#32).toInt))) _ (p (ix2 r j)) = _
    rw [hp, toInt_of_place, decide_eq_false (by simp)]
    rfl

/-- A gather of single entries along the rows reads row `r` at the place its start index names. -/
theorem gather_row (x : FVec Ideal S256x16384 .f32) (q : IVec S256x8x1 32) (r : Fin 256) (j : Fin 8) (k : Fin 16384)
    (hq : q (ix3 r j 0) = BitVec.ofNat 32 k.val) :
    Host.gather gather_S256x16384_S256x8x1_S256x8_n_1_0_0_1_2_11 x q (ix2 r j) = x (ix2 r k) := by
  have hs : gather_S256x16384_S256x8x1_S256x8_n_1_0_0_1_2_11.siIdx (ix2 r j) ⟨0, by decide⟩ = ix3 r j 0 := by
    funext b
    match b with
    | ⟨0, _⟩ => rfl
    | ⟨1, _⟩ => rfl
    | ⟨2, _⟩ => rfl
  refine congrArg x (funext fun a => Fin.ext ?_)
  match a with
  | ⟨0, _⟩ =>
    show 0 + r.val + 0 = r.val
    omega
  | ⟨1, _⟩ =>
    show min (q (gather_S256x16384_S256x8x1_S256x8_n_1_0_0_1_2_11.siIdx (ix2 r j) ⟨0, by decide⟩)).toInt.toNat (16384 - 1) + 0 + 0 = k.val
    have := k.isLt
    rw [hs, hq, toInt_of_place]
    omega

/-- The rows read at places in them are the entries there. -/
theorem taken_apply (q : IVec S256x8x1 32) (k : Fin 256 → Fin 8 → Fin 16384)
    (hq : ∀ r j, q (ix3 r j 0) = BitVec.ofNat 32 (k r j).val) (j : Fin 8) : taken x q (ix2 r j) = x (ix2 r (k r j)) := by
  have hin : ∀ i, inRow q i = 1#1 := fun i => by
    obtain ⟨r, j, rfl⟩ : ∃ (r : Fin 256) (j : Fin 8), i = ix3 r j 0 :=
      ⟨i 0, i 1, (eq_ix3 i).trans (congrArg (ix3 (i 0) (i 1)) (Subsingleton.elim (α := Fin 1) _ _))⟩
    show IntOp.andi (BitVec.ofBool (decide ((0#32).toInt ≤ (q (ix3 r j 0)).toInt)))
      (BitVec.ofBool (decide ((q (ix3 r j 0)).toInt ≤ (16383#32).toInt))) = 1#1
    have hk := (k r j).isLt
    have h0 : (0#32).toInt ≤ (q (ix3 r j 0)).toInt := by
      rw [hq, toInt_of_place]; exact Int.natCast_nonneg _
    have h1 : (q (ix3 r j 0)).toInt ≤ (16383#32).toInt := by
      rw [hq, toInt_of_place]; show ((k r j).val : ℤ) ≤ 16383; omega
    rw [decide_eq_true h0, decide_eq_true h1]; rfl
  unfold taken
  rw [select_apply, Host.reduce_andi_one _ _ _ _ _ rfl hin, select_one]
  exact gather_row x q r j (k r j) (hq r j)

/-! ## The result -/

/-- The first entries of a row listed are the row's at the first places. -/
theorem take_ofFn {α : Type} {n k : ℕ} (h : k ≤ n) (f : Fin n → α) :
    (List.ofFn f).take k = List.ofFn fun j : Fin k => f (j.castLE h) := by
  apply List.ext_getElem
  · simp [h]
  · intro i h1 h2
    simp

/-- The reference's result holds each row's eight greatest entries, greatest first. -/
theorem result_row : List.ofFn (fun j : Fin 8 => (result x (ix2 r j) : EReal)) = topList 8 (List.ofFn fun k : Fin 16384 => (x (ix2 r k) : EReal)) := by
  have e : ∀ j : Fin 8, result x (ix2 r j) = x (ix2 r (source x r (j.castLE (by decide)))) := fun j =>
    taken_apply x r _ (fun r j => source x r (j.castLE (by decide)))
      (fun r j => wrapped_apply _ r j _ (firstPlaces_apply x r j)) j
  have t := take_descending (k := 8) (fun k : Fin 16384 => (x (ix2 r k) : EReal)) (source x r) (source_bijective x r) (source_descends x r)
  exact ((congrArg List.ofFn (funext e)).trans (take_ofFn (show 8 ≤ 16384 by decide) fun i => (x (ix2 r (source x r i)) : EReal)).symm).trans t

end Cert.Sorted

end
-- ==== Proof.Equation.lean ====
/- The equation: with the reference's argument cut into the devices' blocks, every device's result is the reference's. -/
module

public import proofs.«01_k».proof.Proof.KernelValue
public import proofs.«01_k».proof.Proof.RefValue
public import Idealize.ShloMosaic.Lib.Layout

@[expose] public section

noncomputable section

namespace Cert.Exchange

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-- A device stages the whole of its block. -/
theorem xstg_eq (c : Dev nD) : xstg m ρ c = m ((c : Thread nD τ).loc main_arg0) :=
  Memref.read_access_unit_zero (Elt Ideal) main_arg0
    (show (fun a => (win0_0.index (0 : Fin 1)) a * main_arg0.ty.shape.size a) = fun _ => 0 from
      funext fun a => by fin_cases a <;> decide) (fun a => by fin_cases a <;> decide) _

/-- Where the devices hold the blocks of an array, cut along its rows, the result each computes is the reference's result of
    the array. -/
theorem outAt_eq (X : FVec Ideal Cert.ReferenceIdeal.S256x16384 .f32)
    (hX : ∀ c : Dev nD, m ((c : Thread nD τ).loc main_arg0) = Layout.block ⟨2, ![256, 1024]⟩ ⟨2, ![256, 16384]⟩ 1 16 c X) :
    outAt m ρ = Cert.Sorted.result X := by
  have h := top_row (fun r k => X (ix2 r k)) (xstg m ρ) fun i r k => by
    rw [xstg_eq, hX i]
    refine congrArg X (funext fun a => Fin.ext ?_)
    match a with
    | ⟨0, _⟩ => rfl
    | ⟨1, _⟩ => rfl
  funext j
  have hr := List.ofFn_injective ((h (j 0)).trans (Cert.Sorted.result_row X (j 0)).symm)
  rw [eq_ix2 j]
  exact congrFun hr (j 1)

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel and its ideal have the same body under their one label, -/
theorem same_bodies {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))
/-- so the same table of bodies. -/
theorem same_defs {F : FTy → Type} [FloatOps F] : Cert.Kernel.defs (F := F) = Cert.KernelIdeal.defs (F := F) :=
  congrArg (Pipeline.defs Cert.Kernel.pcfgs) same_bodies

/-- The kernel's frame: its run, the result dropped. -/
theorem frame_kernel : Cert.quiescent_Kernel := fun m ρ _ => by
  rw [same_defs]
  exact (θ_run (Cert.KernelIdeal.defs (F := Bits)) (onTc (τ := Cert.KernelIdeal.τ) (Cert.KernelIdeal.main (F := Bits))) (Cert.Exchange.s₀ m ρ)).mono
    (fun _ h => ⟨fun c => (h.1 c (0 : Fin 2)).trans (Cert.Exchange.finalA_x m ρ c), h.2⟩)
    (Cert.Exchange.run_main (F := Bits) m ρ)

/-- The ideal kernel's frame, from the same run. -/
theorem frame_ideal : Cert.quiescent_KernelIdeal := fun m ρ _ =>
  (θ_run Cert.KernelIdeal.defs _ _).mono (fun _ h => ⟨fun c => (h.1 c (0 : Fin 2)).trans (Cert.Exchange.finalA_x m ρ c), h.2⟩)
    (Cert.Exchange.run_main (F := Ideal) m ρ)

/-- The reference's frame, from its run. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal kernel and the reference compute one result: the kernel's run, its result array holding the reference's result by
    the equation, and the reference's run. -/
theorem algebraic : Cert.algebraic_KernelIdeal_ReferenceIdeal := fun m ρ m' ρ' _ hX => by
  refine ⟨Cert.Sorted.result (F := Ideal) (m' (((0 : Dev Cert.ReferenceIdeal.nD).tc : Thread Cert.ReferenceIdeal.nD Cert.ReferenceIdeal.τ).loc
    Cert.ReferenceIdeal.main_arg0)), ?_, ?_⟩
  · exact (θ_run Cert.KernelIdeal.defs _ _).mono
      (fun _ h c => ⟨((h.1 c (1 : Fin 2)).trans (Cert.Exchange.finalA_o m ρ c)).trans (Cert.Exchange.outAt_eq m ρ _ hX),
        (h.1 c (0 : Fin 2)).trans (Cert.Exchange.finalA_x m ρ c)⟩)
      (Cert.Exchange.run_main (F := Ideal) m ρ)
  · exact (θ_run Cert.ReferenceIdeal.defs _ _).mono (fun _ h => h 0) (Cert.Sorted.run (F := Ideal) m' ρ')

theorem claim : Cert.Claim := ⟨Cert.Kernel.Gen.facts, Cert.KernelIdeal.Gen.facts, Cert.ReferenceIdeal.Gen.facts,
  frame_kernel, frame_ideal, frame_reference, trivial, algebraic⟩

end Cert.Proof

end
